-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_usual [hPre_usual : Cert.Pre_usual.Facts] (m : (ℓ : Loc Cert.KernelIdeal.nD Cert.KernelIdeal.τ Cert.KernelIdeal.sig) → Buf (Elt Ideal) ℓ) : Prop :=
  ∀ c : Dev Cert.KernelIdeal.nD,
    (Cert.Pre_usual.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_usual [hPre_usual : Cert.Pre_usual.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_usual.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_usual [hKernelIdeal : Cert.KernelIdeal.Facts] [hPre_usual : Cert.Pre_usual.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_usual m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_usual [hReferenceIdeal : Cert.ReferenceIdeal.Facts] [hPre_usual : Cert.Pre_usual.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_usual m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal_pre_usual [hKernelIdeal : Cert.KernelIdeal.Facts] [hReferenceIdeal : Cert.ReferenceIdeal.Facts] [hPre_usual : Cert.Pre_usual.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_usual m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v82) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_usual : Cert.Pre_usual.Facts),
    quiescent_Kernel (hKernel := hKernel)
    ∧ quiescent_KernelIdeal (hKernelIdeal := hKernelIdeal)
    ∧ quiescent_KernelIdeal_pre_usual (hKernelIdeal := hKernelIdeal) (hPre_usual := hPre_usual)
    ∧ quiescent_ReferenceIdeal (hReferenceIdeal := hReferenceIdeal)
    ∧ quiescent_ReferenceIdeal_pre_usual (hReferenceIdeal := hReferenceIdeal) (hPre_usual := hPre_usual)
    ∧ preserves_Kernel_KernelIdeal
    ∧ algebraic_KernelIdeal_ReferenceIdeal_pre_usual (hKernelIdeal := hKernelIdeal) (hReferenceIdeal := hReferenceIdeal) (hPre_usual := hPre_usual)
-- ==== Pre_usual.lean ====
abbrev S2x4096x1024 : Shape := ⟨3, ![2, 4096, 1024]⟩
abbrev S2x4096x8 : Shape := ⟨3, ![2, 4096, 8]⟩
abbrev S2x4096x4 : Shape := ⟨3, ![2, 4096, 4]⟩
abbrev S8x1024x128 : Shape := ⟨3, ![8, 1024, 128]⟩
abbrev S32x128 : Shape := ⟨2, ![32, 128]⟩
abbrev S8x128x1024 : Shape := ⟨3, ![8, 128, 1024]⟩
abbrev S_ : Shape := ⟨0, ![]⟩

class Facts : Prop where
  bcast_S_S2x4096x1024 : S_.BroadcastsInDim S2x4096x1024 (![] : Fin 0 → Fin S2x4096x1024.rank)
  reducesTo_S2x4096x1024_S_d0_1_2 : S2x4096x1024.ReducesTo [0, 1, 2] S_
  h_S_ : 0 < S_.numel
  bcast_S_S2x4096x8 : S_.BroadcastsInDim S2x4096x8 (![] : Fin 0 → Fin S2x4096x8.rank)
  reducesTo_S2x4096x8_S_d0_1_2 : S2x4096x8.ReducesTo [0, 1, 2] S_
  bcast_S_S2x4096x4 : S_.BroadcastsInDim S2x4096x4 (![] : Fin 0 → Fin S2x4096x4.rank)
  reducesTo_S2x4096x4_S_d0_1_2 : S2x4096x4.ReducesTo [0, 1, 2] S_
  bcast_S_S8x1024x128 : S_.BroadcastsInDim S8x1024x128 (![] : Fin 0 → Fin S8x1024x128.rank)
  reducesTo_S8x1024x128_S_d0_1_2 : S8x1024x128.ReducesTo [0, 1, 2] S_
  bcast_S_S8x128x1024 : S_.BroadcastsInDim S8x128x1024 (![] : Fin 0 → Fin S8x128x1024.rank)
  reducesTo_S8x128x1024_S_d0_1_2 : S8x128x1024.ReducesTo [0, 1, 2] S_

variable [Facts]

def fn_part1 {F : FTy → Type} [FloatOps F] (main_arg4 : FVec F S8x1024x128 .f32) (main_arg6 : FVec F S8x128x1024 .f32) (main_v15 : IVec S_ 1) (main_v16 : FVec F S2x4096x8 .f32) : IVec S_ 1 :=
  let main_cst_5 : FVec F S_ .f32 := constant S_ .f32 0x7F800000#32
  let main_v17 : FVec F S2x4096x8 .f32 := broadcastInDim S2x4096x8 ![] bcast_S_S2x4096x8 main_cst_5
  let main_v18 : IVec S2x4096x8 1 := cmpf .olt main_v16 main_v17
  let main_c_6 : IVec S_ 1 := constantI S_ 1 1#1
  let main_v19 : IVec S_ 1 := (fun x v => Host.reduce IntOp.andi x v reducesTo_S2x4096x8_S_d0_1_2 h_S_) main_v18 main_c_6
  let main_v20 : IVec S_ 1 := andi main_v15 main_v19
  let main_v21 : FVec F S8x1024x128 .f32 := Host.absf main_arg4
  let main_cst_7 : FVec F S_ .f32 := constant S_ .f32 0x7F800000#32
  let main_v22 : FVec F S8x1024x128 .f32 := broadcastInDim S8x1024x128 ![] bcast_S_S8x1024x128 main_cst_7
  let main_v23 : IVec S8x1024x128 1 := cmpf .olt main_v21 main_v22
  let main_c_8 : IVec S_ 1 := constantI S_ 1 1#1
  let main_v24 : IVec S_ 1 := (fun x v => Host.reduce IntOp.andi x v reducesTo_S8x1024x128_S_d0_1_2 h_S_) main_v23 main_c_8
  let main_v25 : IVec S_ 1 := andi main_v20 main_v24
  let main_v26 : FVec F S8x128x1024 .f32 := Host.absf main_arg6
  let main_cst_9 : FVec F S_ .f32 := constant S_ .f32 0x7F800000#32
  let main_v27 : FVec F S8x128x1024 .f32 := broadcastInDim S8x128x1024 ![] bcast_S_S8x128x1024 main_cst_9
  let main_v28 : IVec S8x128x1024 1 := cmpf .olt main_v26 main_v27
  let main_c_10 : IVec S_ 1 := constantI S_ 1 1#1
  let main_v29 : IVec S_ 1 := (fun x v => Host.reduce IntOp.andi x v reducesTo_S8x128x1024_S_d0_1_2 h_S_) main_v28 main_c_10
  let main_v30 : IVec S_ 1 := andi main_v25 main_v29
  main_v30

def fn {F : FTy → Type} [FloatOps F] (main_arg0 : FVec F S2x4096x1024 .f32) (main_arg1 : FVec F S2x4096x8 .f32) (main_arg2 : IVec S2x4096x4 32) (main_arg3 : FVec F S2x4096x8 .f32) (main_arg4 : FVec F S8x1024x128 .f32) (main_arg5 : FVec F S32x128 .f32) (main_arg6 : FVec F S8x128x1024 .f32) : IVec S_ 1 :=
  let main_v0 : FVec F S2x4096x1024 .f32 := Host.absf main_arg0
  let main_cst : FVec F S_ .f32 := constant S_ .f32 0x7F800000#32
  let main_v1 : FVec F S2x4096x1024 .f32 := broadcastInDim S2x4096x1024 ![] bcast_S_S2x4096x1024 main_cst
  let main_v2 : IVec S2x4096x1024 1 := cmpf .olt main_v0 main_v1
  let main_c : IVec S_ 1 := constantI S_ 1 1#1
  let main_v3 : IVec S_ 1 := (fun x v => Host.reduce IntOp.andi x v reducesTo_S2x4096x1024_S_d0_1_2 h_S_) main_v2 main_c
  let main_v4 : FVec F S2x4096x8 .f32 := Host.absf main_arg1
  let main_cst_0 : FVec F S_ .f32 := constant S_ .f32 0x7F800000#32
  let main_v5 : FVec F S2x4096x8 .f32 := broadcastInDim S2x4096x8 ![] bcast_S_S2x4096x8 main_cst_0
  let main_v6 : IVec S2x4096x8 1 := cmpf .olt main_v4 main_v5
  let main_c_1 : IVec S_ 1 := constantI S_ 1 1#1
  let main_v7 : IVec S_ 1 := (fun x v => Host.reduce IntOp.andi x v reducesTo_S2x4096x8_S_d0_1_2 h_S_) main_v6 main_c_1
  let main_v8 : IVec S_ 1 := andi main_v3 main_v7
  let main_c_2 : IVec S_ 32 := constantI S_ 32 0#32
  let main_v9 : IVec S2x4096x4 32 := broadcastInDim S2x4096x4 ![] bcast_S_S2x4096x4 main_c_2
  let main_v10 : IVec S2x4096x4 1 := cmpi .sge main_arg2 main_v9
  let main_c_3 : IVec S_ 32 := constantI S_ 32 32#32
  let main_v11 : IVec S2x4096x4 32 := broadcastInDim S2x4096x4 ![] bcast_S_S2x4096x4 main_c_3
  let main_v12 : IVec S2x4096x4 1 := cmpi .slt main_arg2 main_v11
  let main_v13 : IVec S2x4096x4 1 := andi main_v10 main_v12
  let main_c_4 : IVec S_ 1 := constantI S_ 1 1#1
  let main_v14 : IVec S_ 1 := (fun x v => Host.reduce IntOp.andi x v reducesTo_S2x4096x4_S_d0_1_2 h_S_) main_v13 main_c_4
  let main_v15 : IVec S_ 1 := andi main_v8 main_v14
  let main_v16 : FVec F S2x4096x8 .f32 := Host.absf main_arg3
  fn_part1 (F := F) main_arg4 main_arg6 main_v15 main_v16
-- ==== Kernel.lean ====
abbrev S2x4096x1024 : Shape := ⟨3, ![2, 4096, 1024]⟩
abbrev S2x4096x8 : Shape := ⟨3, ![2, 4096, 8]⟩
abbrev S2x4096x4 : Shape := ⟨3, ![2, 4096, 4]⟩
abbrev S8x1024x128 : Shape := ⟨3, ![8, 1024, 128]⟩
abbrev S32x128 : Shape := ⟨2, ![32, 128]⟩
abbrev S8x128x1024 : Shape := ⟨3, ![8, 128, 1024]⟩
abbrev S8192x1024 : Shape := ⟨2, ![8192, 1024]⟩
abbrev S8192x8 : Shape := ⟨2, ![8192, 8]⟩
abbrev S8192x4 : Shape := ⟨2, ![8192, 4]⟩
abbrev S1024x1024 : Shape := ⟨2, ![1024, 1024]⟩
abbrev S1024x8 : Shape := ⟨2, ![1024, 8]⟩
abbrev S1024x4 : Shape := ⟨2, ![1024, 4]⟩
abbrev S1x1024x128 : Shape := ⟨3, ![1, 1024, 128]⟩
abbrev S1024x128 : Shape := ⟨2, ![1024, 128]⟩
abbrev S1024x1 : Shape := ⟨2, ![1024, 1]⟩
abbrev S32 : Shape := ⟨1, ![32]⟩
abbrev S32x1 : Shape := ⟨2, ![32, 1]⟩
abbrev S128x32 : Shape := ⟨2, ![128, 32]⟩
abbrev S32x32 : Shape := ⟨2, ![32, 32]⟩
abbrev S1024x32 : Shape := ⟨2, ![1024, 32]⟩

abbrev nBuf : Space → Nat
  | .hbm => 14
  | .vmem => 15
  | .smem => 0
  | _ => 0

abbrev bufTy : (tb : Table) → Fin (tcTables nBuf tb) → BufTy
  | .hbm, ⟨0, _⟩ => ⟨S2x4096x1024, .f32⟩
  | .hbm, ⟨1, _⟩ => ⟨S2x4096x8, .f32⟩
  | .hbm, ⟨2, _⟩ => ⟨S2x4096x4, .i32⟩
  | .hbm, ⟨3, _⟩ => ⟨S2x4096x8, .f32⟩
  | .hbm, ⟨4, _⟩ => ⟨S8x1024x128, .f32⟩
  | .hbm, ⟨5, _⟩ => ⟨S32x128, .f32⟩
  | .hbm, ⟨6, _⟩ => ⟨S8x128x1024, .f32⟩
  | .hbm, ⟨7, _⟩ => ⟨S8192x1024, .f32⟩
  | .hbm, ⟨8, _⟩ => ⟨S8192x8, .f32⟩
  | .hbm, ⟨9, _⟩ => ⟨S8192x4, .i32⟩
  | .hbm, ⟨10, _⟩ => ⟨S8192x8, .f32⟩
  | .hbm, ⟨11, _⟩ => ⟨S1024x1024, .f32⟩
  | .hbm, ⟨12, _⟩ => ⟨S8192x1024, .f32⟩
  | .hbm, ⟨13, _⟩ => ⟨S2x4096x1024, .f32⟩
  | .local _ .vmem, ⟨0, _⟩ => ⟨S1024x1024, .f32⟩
  | .local _ .vmem, ⟨1, _⟩ => ⟨S1024x1024, .f32⟩
  | .local _ .vmem, ⟨2, _⟩ => ⟨S1024x8, .f32⟩
  | .local _ .vmem, ⟨3, _⟩ => ⟨S1024x8, .f32⟩
  | .local _ .vmem, ⟨4, _⟩ => ⟨S1024x4, .i32⟩
  | .local _ .vmem, ⟨5, _⟩ => ⟨S1024x4, .i32⟩
  | .local _ .vmem, ⟨6, _⟩ => ⟨S1024x8, .f32⟩
  | .local _ .vmem, ⟨7, _⟩ => ⟨S1024x8, .f32⟩
  | .local _ .vmem, ⟨8, _⟩ => ⟨S8x1024x128, .f32⟩
  | .local _ .vmem, ⟨9, _⟩ => ⟨S32x128, .f32⟩
  | .local _ .vmem, ⟨10, _⟩ => ⟨S1024x1024, .f32⟩
  | .local _ .vmem, ⟨11, _⟩ => ⟨S1024x1024, .f32⟩
  | .local _ .vmem, ⟨12, _⟩ => ⟨S1024x1024, .f32⟩
  | .local _ .vmem, ⟨13, _⟩ => ⟨S1024x1024, .bf16⟩
  | .local _ .vmem, ⟨14, _⟩ => ⟨S1024x1024, .bf16⟩
  | _, _ => ⟨S2x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_scratch0 : Ref sig .tc := ⟨.vmem, 13, rfl⟩
abbrev cc0_scratch1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x8 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x4 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x8 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x1024x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S32x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceIdeal.lean ====
abbrev S2x4096x1024 : Shape := ⟨3, ![2, 4096, 1024]⟩
abbrev S2x4096x8 : Shape := ⟨3, ![2, 4096, 8]⟩
abbrev S2x4096x4 : Shape := ⟨3, ![2, 4096, 4]⟩
abbrev S8x1024x128 : Shape := ⟨3, ![8, 1024, 128]⟩
abbrev S32x128 : Shape := ⟨2, ![32, 128]⟩
abbrev S8x128x1024 : Shape := ⟨3, ![8, 128, 1024]⟩
abbrev S2x4096x8x128 : Shape := ⟨4, ![2, 4096, 8, 128]⟩
abbrev S2x4096x8x1 : Shape := ⟨4, ![2, 4096, 8, 1]⟩
abbrev S_ : Shape := ⟨0, ![]⟩
abbrev S2x4096x128 : Shape := ⟨3, ![2, 4096, 128]⟩
abbrev S2x4096x4x1 : Shape := ⟨4, ![2, 4096, 4, 1]⟩
abbrev S1 : Shape := ⟨1, ![1]⟩
abbrev S1x1x1x1 : Shape := ⟨4, ![1, 1, 1, 1]⟩
abbrev S2x4096x4x128 : Shape := ⟨4, ![2, 4096, 4, 128]⟩
abbrev S2x4096x1x128 : Shape := ⟨4, ![2, 4096, 1, 128]⟩
abbrev S2x4096 : Shape := ⟨2, ![2, 4096]⟩
abbrev S2x4096x1 : Shape := ⟨3, ![2, 4096, 1]⟩
abbrev S2x4096x8x1024 : Shape := ⟨4, ![2, 4096, 8, 1024]⟩

abbrev nBuf : Space → Nat
  | .hbm => 130
  | .vmem => 0
  | .smem => 0
  | _ => 0

abbrev hbmTy0_0 (i : Nat) : BufTy := match i % 128 with
  | 0 => ⟨S2x4096x1024, .f32⟩
  | 1 => ⟨S2x4096x8, .f32⟩
  | 2 => ⟨S2x4096x4, .i32⟩
  | 3 => ⟨S2x4096x8, .f32⟩
  | 4 => ⟨S8x1024x128, .f32⟩
  | 5 => ⟨S32x128, .f32⟩
  | 6 => ⟨S8x128x1024, .f32⟩
  | 7 => ⟨S2x4096x8x128, .f32⟩
  | 8 => ⟨S2x4096x8x1, .f32⟩
  | 9 => ⟨S2x4096x8x128, .f32⟩
  | 10 => ⟨S2x4096x8x128, .f32⟩
  | 11 => ⟨S_, .f32⟩
  | 12 => ⟨S2x4096x128, .f32⟩
  | 13 => ⟨S_, .i32⟩
  | 14 => ⟨S2x4096x4, .i32⟩
  | 15 => ⟨S2x4096x4, .i1⟩
  | 16 => ⟨S_, .i32⟩
  | 17 => ⟨S2x4096x4, .i32⟩
  | 18 => ⟨S2x4096x4, .i32⟩
  | 19 => ⟨S2x4096x4, .i32⟩
  | 20 => ⟨S2x4096x4x1, .i32⟩
  | 21 => ⟨S1, .i32⟩
  | 22 => ⟨S_, .i32⟩
  | 23 => ⟨S2x4096x4x1, .i32⟩
  | 24 => ⟨S2x4096x4x1, .i1⟩
  | 25 => ⟨S1x1x1x1, .i32⟩
  | 26 => ⟨S2x4096x4x1, .i32⟩
  | 27 => ⟨S2x4096x4x1, .i1⟩
  | 28 => ⟨S2x4096x4x1, .i1⟩
  | 29 => ⟨S_, .i1⟩
  | 30 => ⟨S2x4096x4, .i1⟩
  | 31 => ⟨S2x4096x4x128, .f32⟩
  | 32 => ⟨S2x4096x4x128, .i1⟩
  | 33 => ⟨S_, .f32⟩
  | 34 => ⟨S2x4096x4x128, .f32⟩
  | 35 => ⟨S2x4096x4x128, .f32⟩
  | 36 => ⟨S2x4096x1x128, .f32⟩
  | 37 => ⟨S2x4096x128, .f32⟩
  | 38 => ⟨S2x4096x128, .f32⟩
  | 39 => ⟨S_, .f32⟩
  | 40 => ⟨S2x4096, .f32⟩
  | 41 => ⟨S2x4096x1, .f32⟩
  | 42 => ⟨S_, .f32⟩
  | 43 => ⟨S2x4096x1, .f32⟩
  | 44 => ⟨S2x4096x1, .f32⟩
  | 45 => ⟨S2x4096x1, .f32⟩
  | 46 => ⟨S2x4096x128, .f32⟩
  | 47 => ⟨S2x4096x128, .f32⟩
  | 48 => ⟨S2x4096x128, .f32⟩
  | 49 => ⟨S_, .f32⟩
  | 50 => ⟨S2x4096, .f32⟩
  | 51 => ⟨S2x4096x1, .f32⟩
  | 52 => ⟨S_, .f32⟩
  | 53 => ⟨S2x4096x128, .f32⟩
  | 54 => ⟨S2x4096x128, .f32⟩
  | 55 => ⟨S2x4096x128, .f32⟩
  | 56 => ⟨S2x4096x128, .f32⟩
  | 57 => ⟨S2x4096x128, .f32⟩
  | 58 => ⟨S2x4096x1x128, .f32⟩
  | 59 => ⟨S2x4096x128, .f32⟩
  | 60 => ⟨S2x4096x128, .f32⟩
  | 61 => ⟨S_, .f32⟩
  | 62 => ⟨S2x4096, .f32⟩
  | 63 => ⟨S2x4096x1, .f32⟩
  | 64 => ⟨S_, .f32⟩
  | 65 => ⟨S2x4096x1, .f32⟩
  | 66 => ⟨S2x4096x1, .f32⟩
  | 67 => ⟨S2x4096x1, .f32⟩
  | 68 => ⟨S2x4096x128, .f32⟩
  | 69 => ⟨S2x4096x128, .f32⟩
  | 70 => ⟨S2x4096x128, .f32⟩
  | 71 => ⟨S_, .f32⟩
  | 72 => ⟨S2x4096, .f32⟩
  | 73 => ⟨S2x4096x1, .f32⟩
  | 74 => ⟨S_, .f32⟩
  | 75 => ⟨S2x4096x128, .f32⟩
  | 76 => ⟨S2x4096x128, .f32⟩
  | 77 => ⟨S2x4096x128, .f32⟩
  | 78 => ⟨S2x4096x128, .f32⟩
  | 79 => ⟨S2x4096x128, .f32⟩
  | 80 => ⟨S2x4096x1x128, .f32⟩
  | 81 => ⟨S2x4096x128, .f32⟩
  | 82 => ⟨S2x4096x128, .f32⟩
  | 83 => ⟨S_, .f32⟩
  | 84 => ⟨S2x4096, .f32⟩
  | 85 => ⟨S2x4096x1, .f32⟩
  | 86 => ⟨S_, .f32⟩
  | 87 => ⟨S2x4096x1, .f32⟩
  | 88 => ⟨S2x4096x1, .f32⟩
  | 89 => ⟨S2x4096x1, .f32⟩
  | 90 => ⟨S2x4096x128, .f32⟩
  | 91 => ⟨S2x4096x128, .f32⟩
  | 92 => ⟨S2x4096x128, .f32⟩
  | 93 => ⟨S_, .f32⟩
  | 94 => ⟨S2x4096, .f32⟩
  | 95 => ⟨S2x4096x1, .f32⟩
  | 96 => ⟨S_, .f32⟩
  | 97 => ⟨S2x4096x128, .f32⟩
  | 98 => ⟨S2x4096x128, .f32⟩
  | 99 => ⟨S2x4096x128, .f32⟩
  | 100 => ⟨S2x4096x128, .f32⟩
  | 101 => ⟨S2x4096x128, .f32⟩
  | 102 => ⟨S2x4096x1x128, .f32⟩
  | 103 => ⟨S2x4096x128, .f32⟩
  | 104 => ⟨S2x4096x128, .f32⟩
  | 105 => ⟨S_, .f32⟩
  | 106 => ⟨S2x4096, .f32⟩
  | 107 => ⟨S2x4096x1, .f32⟩
  | 108 => ⟨S_, .f32⟩
  | 109 => ⟨S2x4096x1, .f32⟩
  | 110 => ⟨S2x4096x1, .f32⟩
  | 111 => ⟨S2x4096x1, .f32⟩
  | 112 => ⟨S2x4096x128, .f32⟩
  | 113 => ⟨S2x4096x128, .f32⟩
  | 114 => ⟨S2x4096x128, .f32⟩
  | 115 => ⟨S_, .f32⟩
  | 116 => ⟨S2x4096, .f32⟩
  | 117 => ⟨S2x4096x1, .f32⟩
  | 118 => ⟨S_, .f32⟩
  | 119 => ⟨S2x4096x128, .f32⟩
  | 120 => ⟨S2x4096x128, .f32⟩
  | 121 => ⟨S2x4096x128, .f32⟩
  | 122 => ⟨S2x4096x128, .f32⟩
  | 123 => ⟨S2x4096x128, .f32⟩
  | 124 => ⟨S2x4096x8x1024, .f32⟩
  | 125 => ⟨S2x4096x8x1, .f32⟩
  | 126 => ⟨S2x4096x8x1024, .f32⟩
  | 127 => ⟨S2x4096x8x1024, .f32⟩
  | _ => ⟨S2x4096x1024, .f32⟩

abbrev hbmTy0_1 (i : Nat) : BufTy := match i % 128 with
  | 0 => ⟨S_, .f32⟩
  | 1 => ⟨S2x4096x1024, .f32⟩
  | _ => ⟨S2x4096x1024, .f32⟩

abbrev hbmTy (i : Nat) : BufTy := match i / 128 with
  | 0 => hbmTy0_0 i
  | 1 => hbmTy0_1 i
  | _ => ⟨S2x4096x1024, .f32⟩

abbrev bufTy : (tb : Table) → Fin (tcTables nBuf tb) → BufTy
  | .hbm, ⟨i, _⟩ => hbmTy i
  | _, _ => ⟨S2x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_call0_c : Ref sig .tc := ⟨.hbm, 13, rfl⟩
abbrev main_call0_v0 : Ref sig .tc := ⟨.hbm, 14, rfl⟩
abbrev main_call0_v1 : Ref sig .tc := ⟨.hbm, 15, rfl⟩
abbrev main_call0_c_0 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_c_1 : Ref sig .tc := ⟨.hbm, 21, rfl⟩
abbrev main_call0_c_2 : Ref sig .tc := ⟨.hbm, 22, rfl⟩
abbrev main_call0_v6 : Ref sig .tc := ⟨.hbm, 23, rfl⟩
abbrev main_call0_v7 : Ref sig .tc := ⟨.hbm, 24, rfl⟩
abbrev main_call0_v8 : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_c_3 : Ref sig .tc := ⟨.hbm, 29, rfl⟩
abbrev main_call0_v12 : Ref sig .tc := ⟨.hbm, 30, rfl⟩
abbrev main_call0_v13 : Ref sig .tc := ⟨.hbm, 31, rfl⟩
abbrev main_call0_v14 : Ref sig .tc := ⟨.hbm, 32, rfl⟩
abbrev main_call0_cst : Ref sig .tc := ⟨.hbm, 33, rfl⟩
abbrev main_call0_v15 : Ref sig .tc := ⟨.hbm, 34, rfl⟩
abbrev main_v5 : Ref sig .tc := ⟨.hbm, 35, rfl⟩
abbrev main_v6 : Ref sig .tc := ⟨.hbm, 36, rfl⟩
abbrev main_v7 : Ref sig .tc := ⟨.hbm, 37, rfl⟩
abbrev main_v8 : Ref sig .tc := ⟨.hbm, 38, rfl⟩
abbrev main_cst_0 : Ref sig .tc := ⟨.hbm, 39, rfl⟩
abbrev main_v9 : Ref sig .tc := ⟨.hbm, 40, rfl⟩
abbrev main_v10 : Ref sig .tc := ⟨.hbm, 41, rfl⟩
abbrev main_cst_1 : Ref sig .tc := ⟨.hbm, 42, rfl⟩
abbrev main_v11 : Ref sig .tc := ⟨.hbm, 43, rfl⟩
abbrev main_v12 : Ref sig .tc := ⟨.hbm, 44, rfl⟩
abbrev main_v13 : Ref sig .tc := ⟨.hbm, 45, rfl⟩
abbrev main_v14 : Ref sig .tc := ⟨.hbm, 46, rfl⟩
abbrev main_v15 : Ref sig .tc := ⟨.hbm, 47, rfl⟩
abbrev main_v16 : Ref sig .tc := ⟨.hbm, 48, rfl⟩
abbrev main_cst_2 : Ref sig .tc := ⟨.hbm, 49, rfl⟩
abbrev main_v17 : Ref sig .tc := ⟨.hbm, 50, rfl⟩
abbrev main_v18 : Ref sig .tc := ⟨.hbm, 51, rfl⟩
abbrev main_cst_3 : Ref sig .tc := ⟨.hbm, 52, rfl⟩
abbrev main_v19 : Ref sig .tc := ⟨.hbm, 53, rfl⟩
abbrev main_v20 : Ref sig .tc := ⟨.hbm, 54, rfl⟩
abbrev main_v21 : Ref sig .tc := ⟨.hbm, 55, rfl⟩
abbrev main_v22 : Ref sig .tc := ⟨.hbm, 56, rfl⟩
abbrev main_v23 : Ref sig .tc := ⟨.hbm, 57, rfl⟩
abbrev main_v24 : Ref sig .tc := ⟨.hbm, 58, rfl⟩
abbrev main_v25 : Ref sig .tc := ⟨.hbm, 59, rfl⟩
abbrev main_v26 : Ref sig .tc := ⟨.hbm, 60, rfl⟩
abbrev main_cst_4 : Ref sig .tc := ⟨.hbm, 61, rfl⟩
abbrev main_v27 : Ref sig .tc := ⟨.hbm, 62, rfl⟩
abbrev main_v28 : Ref sig .tc := ⟨.hbm, 63, rfl⟩
abbrev main_cst_5 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_cst_6 : Ref sig .tc := ⟨.hbm, 71, rfl⟩
abbrev main_v35 : Ref sig .tc := ⟨.hbm, 72, rfl⟩
abbrev main_v36 : Ref sig .tc := ⟨.hbm, 73, rfl⟩
abbrev main_cst_7 : Ref sig .tc := ⟨.hbm, 74, rfl⟩
abbrev main_v37 : Ref sig .tc := ⟨.hbm, 75, rfl⟩
abbrev main_v38 : Ref sig .tc := ⟨.hbm, 76, rfl⟩
abbrev main_v39 : Ref sig .tc := ⟨.hbm, 77, rfl⟩
abbrev main_v40 : Ref sig .tc := ⟨.hbm, 78, rfl⟩
abbrev main_v41 : Ref sig .tc := ⟨.hbm, 79, rfl⟩
abbrev main_v42 : Ref sig .tc := ⟨.hbm, 80, rfl⟩
abbrev main_v43 : Ref sig .tc := ⟨.hbm, 81, rfl⟩
abbrev main_v44 : Ref sig .tc := ⟨.hbm, 82, rfl⟩
abbrev main_cst_8 : Ref sig .tc := ⟨.hbm, 83, rfl⟩
abbrev main_v45 : Ref sig .tc := ⟨.hbm, 84, rfl⟩
abbrev main_v46 : Ref sig .tc := ⟨.hbm, 85, rfl⟩
abbrev main_cst_9 : Ref sig .tc := ⟨.hbm, 86, rfl⟩
abbrev main_v47 : Ref sig .tc := ⟨.hbm, 87, rfl⟩
abbrev main_v48 : Ref sig .tc := ⟨.hbm, 88, rfl⟩
abbrev main_v49 : Ref sig .tc := ⟨.hbm, 89, rfl⟩
abbrev main_v50 : Ref sig .tc := ⟨.hbm, 90, rfl⟩
abbrev main_v51 : Ref sig .tc := ⟨.hbm, 91, rfl⟩
abbrev main_v52 : Ref sig .tc := ⟨.hbm, 92, rfl⟩
abbrev main_cst_10 : Ref sig .tc := ⟨.hbm, 93, rfl⟩
abbrev main_v53 : Ref sig .tc := ⟨.hbm, 94, rfl⟩
abbrev main_v54 : Ref sig .tc := ⟨.hbm, 95, rfl⟩
abbrev main_cst_11 : Ref sig .tc := ⟨.hbm, 96, rfl⟩
abbrev main_v55 : Ref sig .tc := ⟨.hbm, 97, rfl⟩
abbrev main_v56 : Ref sig .tc := ⟨.hbm, 98, rfl⟩
abbrev main_v57 : Ref sig .tc := ⟨.hbm, 99, rfl⟩
abbrev main_v58 : Ref sig .tc := ⟨.hbm, 100, rfl⟩
abbrev main_v59 : Ref sig .tc := ⟨.hbm, 101, rfl⟩
abbrev main_v60 : Ref sig .tc := ⟨.hbm, 102, rfl⟩
abbrev main_v61 : Ref sig .tc := ⟨.hbm, 103, rfl⟩
abbrev main_v62 : Ref sig .tc := ⟨.hbm, 104, rfl⟩
abbrev main_cst_12 : Ref sig .tc := ⟨.hbm, 105, rfl⟩
abbrev main_v63 : Ref sig .tc := ⟨.hbm, 106, rfl⟩
abbrev main_v64 : Ref sig .tc := ⟨.hbm, 107, rfl⟩
abbrev main_cst_13 : Ref sig .tc := ⟨.hbm, 108, rfl⟩
abbrev main_v65 : Ref sig .tc := ⟨.hbm, 109, rfl⟩
abbrev main_v66 : Ref sig .tc := ⟨.hbm, 110, rfl⟩
abbrev main_v67 : Ref sig .tc := ⟨.hbm, 111, rfl⟩
abbrev main_v68 : Ref sig .tc := ⟨.hbm, 112, rfl⟩
abbrev main_v69 : Ref sig .tc := ⟨.hbm, 113, rfl⟩
abbrev main_v70 : Ref sig .tc := ⟨.hbm, 114, rfl⟩
abbrev main_cst_14 : Ref sig .tc := ⟨.hbm, 115, rfl⟩
abbrev main_v71 : Ref sig .tc := ⟨.hbm, 116, rfl⟩
abbrev main_v72 : Ref sig .tc := ⟨.hbm, 117, rfl⟩
abbrev main_cst_15 : Ref sig .tc := ⟨.hbm, 118, rfl⟩
abbrev main_v73 : Ref sig .tc := ⟨.hbm, 119, rfl⟩
abbrev main_v74 : Ref sig .tc := ⟨.hbm, 120, rfl⟩
abbrev main_v75 : Ref sig .tc := ⟨.hbm, 121, rfl⟩
abbrev main_v76 : Ref sig .tc := ⟨.hbm, 122, rfl⟩
abbrev main_v77 : Ref sig .tc := ⟨.hbm, 123, rfl⟩
abbrev main_v78 : Ref sig .tc := ⟨.hbm, 124, rfl⟩
abbrev main_v79 : Ref sig .tc := ⟨.hbm, 125, rfl⟩
abbrev main_v80 : Ref sig .tc := ⟨.hbm, 126, rfl⟩
abbrev main_v81 : Ref sig .tc := ⟨.hbm, 127, rfl⟩
abbrev main_cst_16 : Ref sig .tc := ⟨.hbm, 128, rfl⟩
abbrev main_v82 : Ref sig .tc := ⟨.hbm, 129, rfl⟩

abbrev nD : Nat := 1
abbrev τ : Topo := Topo.v7x

variable {F : FTy → Type} [FloatOps F]
-- ==== Proof.Frames.lean ====
/- The frames: every execution of the kernel, of its idealisation and of the reference ends with the arguments as they
   were and every semaphore counter at zero. -/
module

public import proofs.«01_k».proof.Defs
public import proofs.«01_k».proof.Proof.Gen.Kernel.Frame
public import proofs.«01_k».proof.Proof.Gen.KernelIdeal.Frame
public import proofs.«01_k».proof.Proof.Gen.Pre_usual
public import proofs.«01_k».proof.Proof.Gen.ReferenceIdeal.Run

@[expose] public section

set_option maxRecDepth 16384

noncomputable section

namespace Cert.Proof

open Idealize.ShloMosaic Idealize.SL.Sem

/-- The kernel's frame. -/
theorem frame_kernel : Cert.quiescent_Kernel := fun m ρ _ => Cert.Kernel.Gen.frame m ρ

/-- The idealised kernel's frame, from any memory. -/
theorem frame_ideal : Cert.quiescent_KernelIdeal := fun m ρ _ => Cert.KernelIdeal.Gen.frame m ρ

/-- The idealised kernel's frame, from the memories the precondition names. -/
theorem frame_ideal_usual : Cert.quiescent_KernelIdeal_pre_usual := fun m ρ _ => Cert.KernelIdeal.Gen.frame m ρ

/-- The reference's frame, from any memory. -/
theorem frame_ref : Cert.quiescent_ReferenceIdeal := fun m ρ _ =>
  (θ_run _ _ _).mono (fun r h => ⟨fun c => (h c).2, sem_eq_zero_of_no_sems (by decide) r.2⟩) (Cert.ReferenceIdeal.Value.run m ρ)

/-- The reference's frame, from the memories the precondition names. -/
theorem frame_ref_usual : Cert.quiescent_ReferenceIdeal_pre_usual := fun m ρ _ =>
  (θ_run _ _ _).mono (fun r h => ⟨fun c => (h c).2, sem_eq_zero_of_no_sems (by decide) r.2⟩) (Cert.ReferenceIdeal.Value.run m ρ)

end Cert.Proof

end
-- ==== Proof.BlockA.lean ====
/- What the kernel's body leaves behind at the first grid point: the two weight matrices laid out in its scratch. -/
module

public import proofs.«01_k».proof.Proof.Gen.KernelIdeal.Frame
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Proof

open Idealize.ShloMosaic Idealize.ShloMosaic.TcCoe Idealize.SL.Sem
open Cert.KernelIdeal Cert.KernelIdeal.Gen

variable (m : (ℓ : Loc nD τ sig) → Buf (Elt Ideal) ℓ)

/-- The eight input matrices side by side: columns `128 n … 128 n + 127` are matrix `n`. -/
def winCols (x : S8x1024x128.Idx → EReal) : S1024x1024.Idx → EReal :=
  fun j => x (ix3 ⟨(j 1).val / 128, by have := (j 1).isLt; simp at this; omega⟩ (j 0) ⟨(j 1).val % 128, Nat.mod_lt _ (by decide)⟩)

/-- The eight stores of the first point, one matrix each, put the matrices side by side. -/
theorem canon_win (x : Vec Ideal S8x1024x128 .f32) :
    View.canon (Val := Elt Ideal) (s := S1024x1024) (e := .bf16)
    [⟨Rect.unit ![0, 896] ![1024, 128] inb_S1024x1024_S1024x128_0_896,
        k0_pay8 (View.ld x (Rect.unit ![7, 0, 0] ![1, 1024, 128] inb_S8x1024x128_S1x1024x128_7_0_0))⟩,
     ⟨Rect.unit ![0, 768] ![1024, 128] inb_S1024x1024_S1024x128_0_768,
        k0_pay7 (View.ld x (Rect.unit ![6, 0, 0] ![1, 1024, 128] inb_S8x1024x128_S1x1024x128_6_0_0))⟩,
     ⟨Rect.unit ![0, 640] ![1024, 128] inb_S1024x1024_S1024x128_0_640,
        k0_pay6 (View.ld x (Rect.unit ![5, 0, 0] ![1, 1024, 128] inb_S8x1024x128_S1x1024x128_5_0_0))⟩,
     ⟨Rect.unit ![0, 512] ![1024, 128] inb_S1024x1024_S1024x128_0_512,
        k0_pay5 (View.ld x (Rect.unit ![4, 0, 0] ![1, 1024, 128] inb_S8x1024x128_S1x1024x128_4_0_0))⟩,
     ⟨Rect.unit ![0, 384] ![1024, 128] inb_S1024x1024_S1024x128_0_384,
        k0_pay4 (View.ld x (Rect.unit ![3, 0, 0] ![1, 1024, 128] inb_S8x1024x128_S1x1024x128_3_0_0))⟩,
     ⟨Rect.unit ![0, 256] ![1024, 128] inb_S1024x1024_S1024x128_0_256,
        k0_pay3 (View.ld x (Rect.unit ![2, 0, 0] ![1, 1024, 128] inb_S8x1024x128_S1x1024x128_2_0_0))⟩,
     ⟨Rect.unit ![0, 128] ![1024, 128] inb_S1024x1024_S1024x128_0_128,
        k0_pay2 (View.ld x (Rect.unit ![1, 0, 0] ![1, 1024, 128] inb_S8x1024x128_S1x1024x128_1_0_0))⟩,
     ⟨Rect.unit ![0, 0] ![1024, 128] inb_S1024x1024_S1024x128_0_0,
        k0_pay1 (View.ld x (Rect.unit ![0, 0, 0] ![1, 1024, 128] inb_S8x1024x128_S1x1024x128_0_0_0))⟩] = winCols x := by
  funext y
  canon_tiles z h
  all_goals
    idx_vars y
    idx_vars z
    pointwise [k0_pay1, k0_pay2, k0_pay3, k0_pay4, k0_pay5, k0_pay6, k0_pay7, k0_pay8, winCols]
  all_goals
    simp at *
    refine congrArg x (congr (congr (congrArg ix3 (Fin.ext ?_)) (Fin.ext ?_)) (Fin.ext ?_)) <;> (try simp) <;> omega

/-- After the first point the first scratch buffer holds the input matrices side by side. -/
theorem scr0_A (c : Dev nD) (t : Fin cfg0.N) (h : t.val % 8 = 0) :
    (outsAt0 m c t.val t.isLt).2.1 = winCols (iblk m c 4 t) := by
  rw [outsAt0_A m c t h]
  frame_out
  exact canon_win _

/-- After the first point the second scratch buffer holds the output matrices, rows of all eight in order. -/
theorem scr1_A (c : Dev nD) (t : Fin cfg0.N) (h : t.val % 8 = 0) :
    (outsAt0 m c t.val t.isLt).2.2 = iblk m c 6 t := by
  funext y
  rw [outsAt0_A m c t h]
  frame_out
  idx_vars y
  pointwise [k0_pay9]

/-- The block of the result that the body computes from its seven input blocks and the two scratch buffers. -/
def bodyOut (x0 : Vec Ideal S1024x1024 .f32) (x1 : Vec Ideal S1024x8 .f32) (x2 : Vec Ideal S1024x4 .i32)
    (x3 : Vec Ideal S1024x8 .f32) (x5 : Vec Ideal S32x128 .f32) (s0 s1 : Vec Ideal S1024x1024 .bf16) :
    FVec Ideal S1024x1024 .f32 :=
  k0_pay19 (k0_pay10 x0 s0 x1) (k0_pay12 x5) (k0_pay14 x5) (k0_pay15 x2)
    (iota Kind.tc S1024x32 32 [1] iota_S1024x32_d1_w32) (k0_pay16 (k0_pay10 x0 s0 x1) x5)
    (k0_pay17 (k0_pay10 x0 s0 x1) x5 x2) (k0_pay18 (k0_pay10 x0 s0 x1) x5 x2) x3 s1

/-- The result block of the first point. -/
theorem out_A (c : Dev nD) (t : Fin cfg0.N) (h : t.val % 8 = 0) :
    (outsAt0 m c t.val t.isLt).1 = bodyOut (iblk m c 0 t) (iblk m c 1 t) (iblk m c 2 t) (iblk m c 3 t) (iblk m c 5 t)
      (winCols (iblk m c 4 t)) (iblk m c 6 t) := by
  have e : (k0_pay9 (iblk m c 6 t) : FVec Ideal S1024x1024 .bf16) = iblk m c 6 t := by
    funext y
    idx_vars y
    pointwise [k0_pay9]
  rw [outsAt0_A m c t h]
  frame_open
  simp (disch := decide) only [↓ View.readCov_skip, ↓ View.readCov_cons_toLoadRect, ↓ View.readCov_fill]
  frame_out
  rw [View.readCov_eq_canon', canon_win, e]
  have g : (fun j => winCols (iblk m c 4 t) ((Rect.unit ![0, 0] ![1024, 1024] inb_S1024x1024_S1024x1024_0_0).toLoadRect.idx j))
      = winCols (iblk m c 4 t) := View.ld_unit_lit _ _ (by decide)
  rw [g]
  rfl

/-- The result block of any other point, from what the point before left in the scratch. -/
theorem out_B (c : Dev nD) (t : Fin cfg0.N) (h : ¬ t.val % 8 = 0) :
    (outsAt0 m c t.val t.isLt).1 = bodyOut (iblk m c 0 t) (iblk m c 1 t) (iblk m c 2 t) (iblk m c 3 t) (iblk m c 5 t)
      (outsAt0 m c (t.val - 1) (by omega)).2.1 (outsAt0 m c (t.val - 1) (by omega)).2.2 := by
  rw [outsAt0_B m c t h]
  frame_out
  simp only [read_unread_whole]
  rfl

/-- Every other point leaves the first scratch buffer as it found it, -/
theorem scr0_B (c : Dev nD) (t : Fin cfg0.N) (h : ¬ t.val % 8 = 0) :
    (outsAt0 m c t.val t.isLt).2.1 = (outsAt0 m c (t.val - 1) (by omega)).2.1 := by
  rw [outsAt0_B m c t h]
  rfl

/-- and the second. -/
theorem scr1_B (c : Dev nD) (t : Fin cfg0.N) (h : ¬ t.val % 8 = 0) :
    (outsAt0 m c t.val t.isLt).2.2 = (outsAt0 m c (t.val - 1) (by omega)).2.2 := by
  rw [outsAt0_B m c t h]
  rfl

end Cert.Proof

end
-- ==== Proof.Row.lean ====
/- One row of the computation as scalar arithmetic, and the equality of the kernel's arithmetic with the reference's. -/
module

public import Idealize.ShloMosaic.Lib.Pointwise
public import Idealize.ShloMosaic.Lib.Pipeline.ValueKit

@[expose] public section

noncomputable section

namespace Cert.Proof

open Idealize.ShloMosaic

/-- The word of the number two is two. -/
theorem two_word : Ideal.ofBits FTy.f32 0x40000000#32 = ((2 : ℝ) : EReal) := by
  simp [Ideal.ofBits, Ideal.ieee, -EReal.coe_mul]; norm_num

/-- The word added to a squared length is a positive real. -/
theorem eps_word : ∃ e : ℝ, 0 < e ∧ Ideal.ofBits FTy.f32 0x322BCC77#32 = (e : EReal) :=
  ⟨11258999 / 2 ^ 50, by norm_num, by simp [Ideal.ofBits, Ideal.ieee, -EReal.coe_mul]; norm_num⟩

/-- The reciprocal root of a positive real is a real, -/
theorem rsqrt_of_pos {r : ℝ} (h : 0 < r) : Ideal.rsqrt (r : EReal) = (((Real.sqrt r)⁻¹ : ℝ) : EReal) := by
  show (if r < 0 then (⊥ : EReal) else if r = 0 then ⊤ else (((Real.sqrt r)⁻¹ : ℝ) : EReal)) = _
  rw [if_neg h.not_gt, if_neg h.ne']

/-- and so is the root. -/
theorem sqrt_of_pos {r : ℝ} (h : 0 < r) : Ideal.sqrt (r : EReal) = (Real.sqrt r : EReal) := by
  show (if r < 0 then (⊥ : EReal) else (Real.sqrt r : EReal)) = _
  rw [if_neg h.not_gt]

/-- The reciprocal root of `⊤` is zero, -/
theorem rsqrt_top' : Ideal.rsqrt ⊤ = 0 := rfl

/-- and its root is `⊤`. -/
theorem sqrt_top' : Ideal.sqrt ⊤ = ⊤ := rfl

/-- A finite sum of reals is the same sum in the extended reals. -/
theorem sum_coe {ι : Type*} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- Squares of extended reals are not negative. -/
theorem sq_nonneg' (x : EReal) : 0 ≤ x * x := by
  rcases le_total 0 x with h | h
  · exact mul_nonneg h h
  · have : 0 ≤ -x * -x := mul_nonneg (by simpa using h) (by simpa using h)
    simpa using this

/-- An extended real that is not a real squares to `⊤`. -/
theorem sq_top (x : EReal) (h : ¬ ∃ r : ℝ, x = r) : x * x = ⊤ := by
  induction x using EReal.rec with
  | bot => simp
  | coe r => exact absurd ⟨r, rfl⟩ h
  | top => simp

/-- Scaling a row by the reciprocal root of its squared length plus a positive real, and dividing it by the root,
    give the same row of reals, whatever the row holds: a row with an infinity becomes zero both ways. -/
theorem unit_row {n : Nat} (q : Fin n → EReal) :
    ∃ u : Fin n → ℝ, (∀ r, q r * Ideal.rsqrt (∑ x, q x * q x + Ideal.ofBits FTy.f32 0x322BCC77#32) = (u r : EReal)) ∧
      ∀ r, Ideal.div (q r) (Ideal.sqrt (∑ x, q x * q x + Ideal.ofBits FTy.f32 0x322BCC77#32)) = (u r : EReal) := by
  obtain ⟨e, he, hw⟩ := eps_word
  rw [hw]
  by_cases h : ∀ r, ∃ a : ℝ, q r = a
  · choose a ha using h
    have hs : ∑ x, q x * q x + (e : EReal) = ((∑ x, a x * a x + e : ℝ) : EReal) := by
      simp only [ha, ← EReal.coe_mul, sum_coe, ← EReal.coe_add]
    have hp : 0 < ∑ x, a x * a x + e := add_pos_of_nonneg_of_pos (Finset.sum_nonneg fun x _ => mul_self_nonneg _) he
    have hq : Real.sqrt (∑ x, a x * a x + e) ≠ 0 := (Real.sqrt_pos.2 hp).ne'
    refine ⟨fun r => a r * (Real.sqrt (∑ x, a x * a x + e))⁻¹, fun r => ?_, fun r => ?_⟩
    · rw [hs, rsqrt_of_pos hp, ha, EReal.coe_mul]
    · rw [hs, sqrt_of_pos hp, Ideal.div_coe hq, ha, EReal.coe_mul, one_div]
  · push Not at h
    obtain ⟨r, hr⟩ := h
    have ht : ∑ x, q x * q x = ⊤ := by
      refine top_le_iff.1 ?_
      rw [← sq_top (q r) (by rintro ⟨a, ha⟩; exact hr a ha)]
      exact Finset.single_le_sum (f := fun x => q x * q x) (fun x _ => sq_nonneg' _) (Finset.mem_univ r)
    refine ⟨fun _ => 0, fun r => ?_, fun r => ?_⟩
    · rw [ht, EReal.top_add_coe]; rw [rsqrt_top']; simp
    · rw [ht, EReal.top_add_coe]; rw [sqrt_top']; simp [Ideal.div]

/-! ## The chain of reflections, over the reals -/

section Reals

variable {n k : Nat} (h : Fin n → ℝ) (p : Fin k → Fin n → ℝ)

/-- The row after the combination `A` of the unit rows is taken off. -/
def off (A : Fin k → ℝ) : Fin n → ℝ := fun r => h r - ∑ j, A j * p j r

/-- Reflecting a row at the unit row `i`. -/
def refl (g : Fin n → ℝ) (i : Fin k) : Fin n → ℝ := fun r => g r - 2 * p i r * ∑ s, g s * p i s

/-- The correction the kernel adds at coordinate `i`: twice the product of the row with unit row `i`, through the
    products of the unit rows with each other. -/
def corr (A : Fin k → ℝ) (i : Fin k) : ℝ :=
  2 * (∑ s, h s * p i s - ∑ j, A j * ∑ s, p j s * p i s)

/-- The product of what is left of the row with a unit row. -/
theorem off_dot (A : Fin k → ℝ) (i : Fin k) :
    ∑ s, off h p A s * p i s = ∑ s, h s * p i s - ∑ j, A j * ∑ s, p j s * p i s := by
  simp only [off, sub_mul, Finset.sum_sub_distrib, Finset.sum_mul, Finset.mul_sum, mul_assoc]
  rw [Finset.sum_comm]

/-- Adding the correction at coordinate `i` reflects what is left of the row. -/
theorem off_step (A : Fin k → ℝ) (i : Fin k) :
    off h p (fun j => A j + if j = i then corr h p A j else 0) = refl p (off h p A) i := by
  funext r
  rw [refl, off_dot]
  simp only [off, corr, add_mul, Finset.sum_add_distrib, ite_mul, zero_mul, Finset.sum_ite_eq', Finset.mem_univ, if_true]
  ring

/-- With nothing taken off the row is itself. -/
theorem off_zero : off h p (fun _ => 0) = h := by
  funext r; simp [off]

end Reals

end Cert.Proof

end
-- ==== Proof.Chain.lean ====
/- The kernel's row, its corrections kept on the coordinates the index words name, against the reference's row. -/
module

public import proofs.«01_k».proof.Proof.Row
public import Idealize.ShloMosaic.Lib.Affine

@[expose] public section

noncomputable section

namespace Cert.Proof

open Idealize.ShloMosaic

/-- A value kept where the word `b` names the coordinate `k`, zero elsewhere. -/
def hit (b : BitVec 32) (k : Fin 32) (v : EReal) : EReal :=
  Scalar.select (IntOp.cmpi .eq b (BitVec.ofNat 32 k.val)) v 0

/-- For a word that names `i`, the value is kept at `i` alone. -/
theorem hit_coe {b : BitVec 32} {i : Fin 32} (hb : b.toNat = i.val) (k : Fin 32) (v : ℝ) :
    hit b k (v : EReal) = ((if k = i then v else 0 : ℝ) : EReal) := by
  have e : b = BitVec.ofNat 32 k.val ↔ k = i := by
    constructor
    · rintro rfl
      rw [BitVec.toNat_ofNat, Nat.mod_eq_of_lt (by omega)] at hb
      exact Fin.ext hb
    · rintro rfl
      exact BitVec.eq_of_toNat_eq (by rw [hb, BitVec.toNat_ofNat, Nat.mod_eq_of_lt (by omega)])
  by_cases h : k = i
  · have : b = BitVec.ofNat 32 k.val := e.2 h
    simp [hit, Scalar.select, IntOp.cmpi, this, h]
  · have : ¬ b = BitVec.ofNat 32 k.val := fun x => h (e.1 x)
    have hf : (b == BitVec.ofNat 32 k.val) = false := beq_eq_false_iff_ne.2 this
    simp [hit, Scalar.select, IntOp.cmpi, hf, h]

section Kernel

variable (g : Fin 32 → EReal) (c : Fin 32 → Fin 32 → EReal)

/-- The kernel's combination after the first two indices. -/
def comb2 (b0 b1 : BitVec 32) (k : Fin 32) : EReal :=
  hit b0 k (Ideal.ofBits FTy.f32 0x40000000#32 * g k)
    + hit b1 k (Ideal.ofBits FTy.f32 0x40000000#32
        * (g k - ∑ x, hit b0 x (Ideal.ofBits FTy.f32 0x40000000#32 * g x * c x k)))

/-- The combination after the third, from the one before. -/
def comb3 (A : Fin 32 → EReal) (b : BitVec 32) (k : Fin 32) : EReal :=
  A k + Ideal.ofBits FTy.f32 0x40000000#32 * hit b k (g k - ∑ x, A x * c x k)

/-- The combination after the fourth. -/
def comb4 (A : Fin 32 → EReal) (b : BitVec 32) (k : Fin 32) : EReal :=
  A k + hit b k (Ideal.ofBits FTy.f32 0x40000000#32 * (g k - ∑ x, A x * c x k))

end Kernel

/-- What the kernel leaves of a row: the row less the combination of the unit rows. -/
def rest (h : Fin 128 → EReal) (p : Fin 32 → Fin 128 → EReal) (A : Fin 32 → EReal) (r : Fin 128) : EReal :=
  h r - ∑ k, A k * p k r

/-- The kernel's row after its four corrections. -/
def kerRow (h : Fin 128 → EReal) (p : Fin 32 → Fin 128 → EReal) (b : Fin 4 → BitVec 32) : Fin 128 → EReal :=
  rest h p (comb4 (fun k => ∑ s, h s * p k s) (fun j k => ∑ s, p j s * p k s)
    (comb3 (fun k => ∑ s, h s * p k s) (fun j k => ∑ s, p j s * p k s)
      (comb2 (fun k => ∑ s, h s * p k s) (fun j k => ∑ s, p j s * p k s) (b 0) (b 1)) (b 2)) (b 3))

/-- One reflection of the reference, at a row `v`. -/
def refStep (h v : Fin 128 → EReal) (r : Fin 128) : EReal :=
  h r - Ideal.ofBits FTy.f32 0x40000000#32 * v r * ∑ s, h s * v s

section Coe

variable (h : Fin 128 → ℝ) (p : Fin 32 → Fin 128 → ℝ)

theorem refStep_coe (i : Fin 32) :
    refStep (fun r => (h r : EReal)) (fun r => (p i r : EReal)) = fun r => (refl p h i r : EReal) := by
  funext r
  simp only [refStep, refl, two_word, ← EReal.coe_mul, sum_coe, ← EReal.coe_sub]

theorem rest_coe (A : Fin 32 → ℝ) :
    rest (fun r => (h r : EReal)) (fun k r => (p k r : EReal)) (fun k => (A k : EReal)) = fun r => (off h p A r : EReal) := by
  funext r
  simp only [rest, off, ← EReal.coe_mul, sum_coe, ← EReal.coe_sub]

theorem comb4_coe (A : Fin 32 → ℝ) {b : BitVec 32} {i : Fin 32} (hb : b.toNat = i.val) :
    comb4 (fun k => ∑ s, (h s : EReal) * p k s) (fun j k => ∑ s, (p j s : EReal) * p k s) (fun k => (A k : EReal)) b
      = fun k => ((A k + if k = i then corr h p A k else 0 : ℝ) : EReal) := by
  funext k
  simp only [comb4, two_word, ← EReal.coe_mul, sum_coe, ← EReal.coe_sub, hit_coe hb, ← EReal.coe_add, corr]

theorem comb3_coe (A : Fin 32 → ℝ) {b : BitVec 32} {i : Fin 32} (hb : b.toNat = i.val) :
    comb3 (fun k => ∑ s, (h s : EReal) * p k s) (fun j k => ∑ s, (p j s : EReal) * p k s) (fun k => (A k : EReal)) b
      = fun k => ((A k + if k = i then corr h p A k else 0 : ℝ) : EReal) := by
  funext k
  simp only [comb3, two_word, ← EReal.coe_mul, sum_coe, ← EReal.coe_sub, hit_coe hb, ← EReal.coe_add, corr, mul_ite, mul_zero]

theorem comb2_coe {b0 b1 : BitVec 32} {i0 i1 : Fin 32} (h0 : b0.toNat = i0.val) (h1 : b1.toNat = i1.val) :
    comb2 (fun k => ∑ s, (h s : EReal) * p k s) (fun j k => ∑ s, (p j s : EReal) * p k s) b0 b1
      = fun k => (((0 + if k = i0 then corr h p (fun _ => 0) k else 0)
          + if k = i1 then corr h p (fun k => 0 + if k = i0 then corr h p (fun _ => 0) k else 0) k else 0 : ℝ) : EReal) := by
  funext k
  simp only [comb2, two_word, ← EReal.coe_mul, sum_coe, ← EReal.coe_sub, hit_coe h0, hit_coe h1, ← EReal.coe_add, corr,
    zero_mul, Finset.sum_const_zero, sub_zero, zero_add, ite_mul]

/-- The kernel's four corrections are the reference's four reflections, one after the other. -/
theorem kerRow_coe (b : Fin 4 → BitVec 32) (i : Fin 4 → Fin 32) (hb : ∀ l, (b l).toNat = (i l).val) :
    kerRow (fun r => (h r : EReal)) (fun k r => (p k r : EReal)) b
        = (fun r => (refl p (refl p (refl p (refl p h (i 0)) (i 1)) (i 2)) (i 3) r : EReal)) ∧
      refStep (refStep (refStep (refStep (fun r => (h r : EReal)) fun r => (p (i 0) r : EReal)) fun r => (p (i 1) r : EReal))
          fun r => (p (i 2) r : EReal)) (fun r => (p (i 3) r : EReal))
        = fun r => (refl p (refl p (refl p (refl p h (i 0)) (i 1)) (i 2)) (i 3) r : EReal) := by
  refine ⟨?_, by simp only [refStep_coe]⟩
  rw [kerRow, comb2_coe h p (hb 0) (hb 1), comb3_coe h p _ (hb 2), comb4_coe h p _ (hb 3), rest_coe]
  simp only [off_step, off_zero]

end Coe

/-- The last product: one sum over all rows of the eight matrices, each row of the input scaled first, is the sum over
    the matrices of the scaled products. -/
theorem out_sum (H : Fin 128 → ℝ) (wo : Fin 8 → ℝ) (W : Fin 8 → Fin 128 → ℝ) :
    (∑ x : Fin 1024, (H ⟨x.val % 128, Nat.mod_lt _ (by decide)⟩ : EReal) * wo ⟨x.val / 128, by omega⟩
        * W ⟨x.val / 128, by omega⟩ ⟨x.val % 128, Nat.mod_lt _ (by decide)⟩)
      = ∑ n, (∑ r, (H r : EReal) * W n r) * wo n := by
  have e : ∀ n, (∑ r, (H r : EReal) * W n r) * wo n = ∑ r, (H r : EReal) * wo n * W n r := fun n => by
    simp only [← EReal.coe_mul, sum_coe]
    rw [Finset.sum_mul]
    exact congrArg _ (Finset.sum_congr rfl fun r _ => by ring)
  simp only [e]
  refine (Fin.sum_mul_add_congr fun s k hl => ?_).symm
  have e1 : (s.val * 128 + k.val) % 128 = k.val := by omega
  have e2 : (s.val * 128 + k.val) / 128 = s.val := by omega
  simp only [e1, e2]

end Cert.Proof

end
-- ==== Proof.BodyAt.lean ====
/- What the kernel's body computes, read at one row and one column. -/
module

public import proofs.«01_k».proof.Proof.BlockA
public import proofs.«01_k».proof.Proof.Chain

@[expose] public section

set_option maxRecDepth 16384

noncomputable section

namespace Cert.Proof

open Idealize.ShloMosaic Idealize.ShloMosaic.TcCoe Idealize.SL.Sem
open Cert.KernelIdeal Cert.KernelIdeal.Gen

/-- The first product: the input row against each of the eight matrices, each scaled and all added. -/
def hRow (X : Fin 1024 → EReal) (wi : Fin 8 → EReal) (W : Fin 8 → Fin 1024 → Fin 128 → EReal) (r : Fin 128) : EReal :=
  ∑ n, (∑ d, X d * W n d r) * wi n

/-- A row scaled by the reciprocal root of its squared length. -/
def unitRow (P : Fin 32 → Fin 128 → EReal) (k : Fin 32) (r : Fin 128) : EReal :=
  P k r * Ideal.rsqrt (∑ x, P k x * P k x + Ideal.ofBits FTy.f32 0x322BCC77#32)

theorem pay10_at (x0 : Vec Ideal S1024x1024 .f32) (x4 : Vec Ideal S8x1024x128 .f32) (x1 : Vec Ideal S1024x8 .f32)
    (i : Fin 1024) (r : Fin 128) :
    k0_pay10 x0 (winCols x4) x1 (ix2 i r)
      = hRow (fun d => x0 (ix2 i d)) (fun n => x1 (ix2 i n)) (fun n d r => x4 (ix3 n d r)) r := by
  have e : ∀ (n : Nat) (hn : n < 8) (d : Fin 1024) (hc : n * 128 + r.val < 1024),
      winCols x4 (ix2 d ⟨n * 128 + r.val, hc⟩) = x4 (ix3 ⟨n, hn⟩ d r) := fun n hn d hc => by
    refine congrArg x4 (congr (congr (congrArg ix3 (Fin.ext ?_)) rfl) (Fin.ext ?_)) <;> simp <;> omega
  pointwise [k0_pay10, hRow]
  rw [Fin.sum_univ_eight]
  have e0 := fun d => e 0 (by omega) d (by omega)
  simp only [Nat.zero_mul, Nat.zero_add] at e0
  exact (congrArg₂ (· + ·)
    (congrArg₂ (· + ·)
    (congrArg₂ (· + ·)
    (congrArg₂ (· + ·)
    (congrArg₂ (· + ·)
    (congrArg₂ (· + ·)
    (congrArg₂ (· + ·)
    (congrArg₂ (· * ·) (Finset.sum_congr rfl fun d _ => congrArg _ (e0 d)) rfl)
    (congrArg₂ (· * ·) (Finset.sum_congr rfl fun d _ => congrArg _ (e 1 (by omega) d (by omega))) rfl))
    (congrArg₂ (· * ·) (Finset.sum_congr rfl fun d _ => congrArg _ (e 2 (by omega) d (by omega))) rfl))
    (congrArg₂ (· * ·) (Finset.sum_congr rfl fun d _ => congrArg _ (e 3 (by omega) d (by omega))) rfl))
    (congrArg₂ (· * ·) (Finset.sum_congr rfl fun d _ => congrArg _ (e 4 (by omega) d (by omega))) rfl))
    (congrArg₂ (· * ·) (Finset.sum_congr rfl fun d _ => congrArg _ (e 5 (by omega) d (by omega))) rfl))
    (congrArg₂ (· * ·) (Finset.sum_congr rfl fun d _ => congrArg _ (e 6 (by omega) d (by omega))) rfl))
    (congrArg₂ (· * ·) (Finset.sum_congr rfl fun d _ => congrArg _ (e 7 (by omega) d (by omega))) rfl))

theorem pay11_at (x5 : Vec Ideal S32x128 .f32) (k : Fin 32) (r : Fin 128) :
    k0_pay11 x5 (ix2 k r) = unitRow (fun k r => x5 (ix2 k r)) k r := by
  pointwise [k0_pay11, unitRow]

theorem pay12_at (x5 : Vec Ideal S32x128 .f32) (k : Fin 32) (r : Fin 128) :
    k0_pay12 x5 (ix2 k r) = unitRow (fun k r => x5 (ix2 k r)) k r := pay11_at x5 k r

theorem pay14_at (x5 : Vec Ideal S32x128 .f32) (j k : Fin 32) :
    k0_pay14 x5 (ix2 j k)
      = ∑ s, unitRow (fun k r => x5 (ix2 k r)) j s * unitRow (fun k r => x5 (ix2 k r)) k s := by
  pointwise [k0_pay14, k0_pay13]
  exact Finset.sum_congr rfl fun s _ => congr (congrArg _ (pay12_at x5 j s)) (pay11_at x5 k s)

theorem pay16_at (h : FVec Ideal S1024x128 .f32) (x5 : Vec Ideal S32x128 .f32) (i : Fin 1024) (k : Fin 32) :
    k0_pay16 h x5 (ix2 i k) = ∑ s, h (ix2 i s) * unitRow (fun k r => x5 (ix2 k r)) k s := by
  pointwise [k0_pay16, k0_pay13]
  exact Finset.sum_congr rfl fun s _ => congrArg _ (pay11_at x5 k s)

theorem pay17_at (h : FVec Ideal S1024x128 .f32) (x5 : Vec Ideal S32x128 .f32) (x2 : Vec Ideal S1024x4 .i32)
    (i : Fin 1024) (k : Fin 32) :
    k0_pay17 h x5 x2 (ix2 i k)
      = comb2 (fun k => k0_pay16 h x5 (ix2 i k)) (fun j k => k0_pay14 x5 (ix2 j k)) (x2 (ix2 i 0)) (x2 (ix2 i 1)) k := by
  pointwise [k0_pay17, k0_pay15]
  rfl

theorem pay18_at (h : FVec Ideal S1024x128 .f32) (x5 : Vec Ideal S32x128 .f32) (x2 : Vec Ideal S1024x4 .i32)
    (i : Fin 1024) (k : Fin 32) :
    k0_pay18 h x5 x2 (ix2 i k)
      = hit (x2 (ix2 i 2)) k (k0_pay16 h x5 (ix2 i k) - ∑ x, k0_pay17 h x5 x2 (ix2 i x) * k0_pay14 x5 (ix2 x k)) := by
  pointwise [k0_pay18, k0_pay15]
  rfl

set_option maxHeartbeats 1600000 in
/-- The last part of the body at an index: what is left of the row, scaled for each of the eight matrices, against all
    the matrices' rows. -/
theorem pay19_at (v48 : FVec Ideal S1024x128 .f32) (v58 : FVec Ideal S32x128 .bf16) (v62 : FVec Ideal S32x32 .bf16)
    (x2 : IVec S1024x4 32) (v67 v85 v93 : FVec Ideal S1024x32 .f32) (v112 : Vec Ideal S1024x8 .f32)
    (v140 : Vec Ideal S1024x1024 .bf16) (i j : Fin 1024) :
    k0_pay19 v48 v58 v62 (k0_pay15 (F := Ideal) x2) (iota Kind.tc S1024x32 32 [1] iota_S1024x32_d1_w32) v67 v85 v93 v112 v140 (ix2 i j)
      = ∑ x : Fin 1024, rest (fun r => v48 (ix2 i r)) (fun k r => v58 (ix2 k r))
          (comb4 (fun k => v67 (ix2 i k)) (fun j k => v62 (ix2 j k))
            (fun k => v85 (ix2 i k) + Ideal.ofBits FTy.f32 0x40000000#32 * v93 (ix2 i k)) (x2 (ix2 i 3)))
          ⟨x.val % 128, Nat.mod_lt _ (by decide)⟩ * v112 (ix2 i ⟨x.val / 128, by omega⟩) * v140 (ix2 x j) := by
  pointwise [k0_pay19, k0_pay15]
  refine Finset.sum_congr rfl fun x _ => congrFun (congrArg _ ?_) _
  have e : ∀ (n : Nat) (z : Nat) (hz : z < 128) (hn : n < 8), x.val = n * 128 + z →
      (⟨x.val % 128, Nat.mod_lt _ (by decide)⟩ : Fin 128) = ⟨z, hz⟩ ∧ (⟨x.val / 128, by omega⟩ : Fin 8) = ⟨n, hn⟩ :=
    fun n z hz hn h => ⟨Fin.ext (by simp; omega), Fin.ext (by simp; omega)⟩
  by_cases h0 : x.val < 128
  · rw [dif_pos h0, (e 0 _ h0 (by omega) (by omega)).1, (e 0 _ h0 (by omega) (by omega)).2]; rfl
  rw [dif_neg h0]
  by_cases h1 : x.val - 128 < 128
  · rw [dif_pos h1, (e 1 _ h1 (by omega) (by omega)).1, (e 1 _ h1 (by omega) (by omega)).2]; rfl
  rw [dif_neg h1]
  by_cases h2 : x.val - 128 - 128 < 128
  · rw [dif_pos h2, (e 2 _ h2 (by omega) (by omega)).1, (e 2 _ h2 (by omega) (by omega)).2]; rfl
  rw [dif_neg h2]
  by_cases h3 : x.val - 128 - 128 - 128 < 128
  · rw [dif_pos h3, (e 3 _ h3 (by omega) (by omega)).1, (e 3 _ h3 (by omega) (by omega)).2]; rfl
  rw [dif_neg h3]
  by_cases h4 : x.val - 128 - 128 - 128 - 128 < 128
  · rw [dif_pos h4, (e 4 _ h4 (by omega) (by omega)).1, (e 4 _ h4 (by omega) (by omega)).2]; rfl
  rw [dif_neg h4]
  by_cases h5 : x.val - 128 - 128 - 128 - 128 - 128 < 128
  · rw [dif_pos h5, (e 5 _ h5 (by omega) (by omega)).1, (e 5 _ h5 (by omega) (by omega)).2]; rfl
  rw [dif_neg h5]
  by_cases h6 : x.val - 128 - 128 - 128 - 128 - 128 - 128 < 128
  · rw [dif_pos h6, (e 6 _ h6 (by omega) (by omega)).1, (e 6 _ h6 (by omega) (by omega)).2]; rfl
  rw [dif_neg h6]
  rw [(e 7 (x.val - 128 - 128 - 128 - 128 - 128 - 128 - 128) (by omega) (by omega) (by omega)).1,
    (e 7 (x.val - 128 - 128 - 128 - 128 - 128 - 128 - 128) (by omega) (by omega) (by omega)).2]
  rfl

/-- The body's result at a row and a column. -/
theorem bodyOut_at (x0 : Vec Ideal S1024x1024 .f32) (x1 : Vec Ideal S1024x8 .f32) (x2 : Vec Ideal S1024x4 .i32)
    (x3 : Vec Ideal S1024x8 .f32) (x4 : Vec Ideal S8x1024x128 .f32) (x5 : Vec Ideal S32x128 .f32)
    (x6 : Vec Ideal S1024x1024 .bf16) (i j : Fin 1024) :
    bodyOut x0 x1 x2 x3 x5 (winCols x4) x6 (ix2 i j)
      = ∑ x : Fin 1024, kerRow (hRow (fun d => x0 (ix2 i d)) (fun n => x1 (ix2 i n)) (fun n d r => x4 (ix3 n d r)))
          (unitRow fun k r => x5 (ix2 k r)) (fun l => x2 (ix2 i l)) ⟨x.val % 128, Nat.mod_lt _ (by decide)⟩
          * x3 (ix2 i ⟨x.val / 128, by omega⟩) * x6 (ix2 x j) := by
  rw [bodyOut, pay19_at]
  simp only [pay10_at, pay12_at, pay14_at, pay16_at, pay17_at, pay18_at]
  rfl

end Cert.Proof

end
-- ==== Proof.KernelValue.lean ====
/- The kernel's result array after the run, as one formula over the seven arguments. -/
module

public import proofs.«01_k».proof.Proof.BodyAt
public import Idealize.ShloMosaic.Lib.Pipeline.ValueKit.Held
public import Idealize.ShloMosaic.Lib.StableHlo.ReadAt
public import Idealize.ShloMosaic.Lib.Claim

@[expose] public section

set_option maxRecDepth 16384

noncomputable section

namespace Cert.Proof

open Idealize.ShloMosaic Idealize.ShloMosaic.TcCoe Idealize.SL.Sem
open Idealize.ShloMosaic.Pipeline (Dat)
open Cert.KernelIdeal Cert.KernelIdeal.Gen

/-- The kernel's result over its seven arguments. -/
def kerOut (X : S2x4096x1024.Idx → EReal) (wi : S2x4096x8.Idx → EReal) (b : S2x4096x4.Idx → BitVec 32)
    (wo : S2x4096x8.Idx → EReal) (win : S8x1024x128.Idx → EReal) (pn : S32x128.Idx → EReal)
    (won : S8x128x1024.Idx → EReal) (i : Fin 2) (s : Fin 4096) (d : Fin 1024) : EReal :=
  ∑ x : Fin 1024, kerRow (hRow (fun d => X (ix3 i s d)) (fun n => wi (ix3 i s n)) (fun n d r => win (ix3 n d r)))
      (unitRow fun k r => pn (ix2 k r)) (fun l => b (ix3 i s l)) ⟨x.val % 128, Nat.mod_lt _ (by decide)⟩
    * wo (ix3 i s ⟨x.val / 128, by omega⟩)
    * won (ix3 ⟨x.val / 128, by omega⟩ ⟨x.val % 128, Nat.mod_lt _ (by decide)⟩ d)

variable (m : (ℓ : Loc nD τ sig) → Buf (Elt Ideal) ℓ)

/-- Where each window's block lies at each grid point. -/
theorem idx : ∀ t : Fin cfg0.N, win0_0.index t = ![t.val, 0] ∧ win0_1.index t = ![t.val, 0] ∧
    win0_2.index t = ![t.val, 0] ∧ win0_3.index t = ![t.val, 0] ∧ win0_4.index t = ![0, 0, 0] ∧
    win0_5.index t = ![0, 0] ∧ win0_6.index t = ![0, 0] ∧ win0_7.index t = ![t.val, 0] ∧ t.val < 8 :=
  (by decide +kernel : ∀ t : Fin grid0.N, _)

/-- Operand 0 of the launch at an index: argument 0, its two leading axes in one. -/
theorem entry0 (c : Dev nD) (r : Fin 8192) (d : Fin 1024) :
    (V m c main_v0 : S8192x1024.Idx → EReal) (ix2 r d)
      = (m ((c : Thread nD τ).loc main_arg0) : S2x4096x1024.Idx → EReal)
          (ix3 ⟨r.val / 4096, by omega⟩ ⟨r.val % 4096, Nat.mod_lt _ (by decide)⟩ d) := by
  unfold V V0
  after_reads_at

/-- Operand 1 of the launch at an index: argument 1, its two leading axes in one. -/
theorem entry1 (c : Dev nD) (r : Fin 8192) (d : Fin 8) :
    (V m c main_v1 : S8192x8.Idx → EReal) (ix2 r d)
      = (m ((c : Thread nD τ).loc main_arg1) : S2x4096x8.Idx → EReal)
          (ix3 ⟨r.val / 4096, by omega⟩ ⟨r.val % 4096, Nat.mod_lt _ (by decide)⟩ d) := by
  unfold V V0
  after_reads_at

/-- Operand 2 of the launch at an index: argument 2, its two leading axes in one. -/
theorem entry2 (c : Dev nD) (r : Fin 8192) (d : Fin 4) :
    (V m c main_v2 : S8192x4.Idx → BitVec 32) (ix2 r d)
      = (m ((c : Thread nD τ).loc main_arg2) : S2x4096x4.Idx → BitVec 32)
          (ix3 ⟨r.val / 4096, by omega⟩ ⟨r.val % 4096, Nat.mod_lt _ (by decide)⟩ d) := by
  unfold V V0
  after_reads_at

/-- Operand 3 of the launch at an index: argument 3, its two leading axes in one. -/
theorem entry3 (c : Dev nD) (r : Fin 8192) (d : Fin 8) :
    (V m c main_v3 : S8192x8.Idx → EReal) (ix2 r d)
      = (m ((c : Thread nD τ).loc main_arg3) : S2x4096x8.Idx → EReal)
          (ix3 ⟨r.val / 4096, by omega⟩ ⟨r.val % 4096, Nat.mod_lt _ (by decide)⟩ d) := by
  unfold V V0
  after_reads_at

/-- The last operand at an index: the output matrices, their rows in one column. -/
theorem entry4 (c : Dev nD) (x d : Fin 1024) :
    (V m c main_v4 : S1024x1024.Idx → EReal) (ix2 x d)
      = (m ((c : Thread nD τ).loc main_arg6) : S8x128x1024.Idx → EReal)
          (ix3 ⟨x.val / 128, by omega⟩ ⟨x.val % 128, Nat.mod_lt _ (by decide)⟩ d) := by
  unfold V V0
  after_reads_at

/-- The fifth window stages the whole array of input matrices at every point. -/
theorem block4 (c : Dev nD) (t : Fin cfg0.N) :
    (iblk m c 4 t : S8x1024x128.Idx → EReal) = m ((c : Thread nD τ).loc main_arg4) := by
  blk_ext! [iblk, V, idx t]

/-- The sixth stages the whole array of process rows. -/
theorem block5 (c : Dev nD) (t : Fin cfg0.N) :
    (iblk m c 5 t : S32x128.Idx → EReal) = m ((c : Thread nD τ).loc main_arg5) := by
  blk_ext! [iblk, V, idx t]

/-- The seventh stages the output matrices, their rows in one column. -/
theorem block6 (c : Dev nD) (t : Fin cfg0.N) (x d : Fin 1024) :
    (iblk m c 6 t : S1024x1024.Idx → EReal) (ix2 x d)
      = (m ((c : Thread nD τ).loc main_arg6) : S8x128x1024.Idx → EReal)
          (ix3 ⟨x.val / 128, by omega⟩ ⟨x.val % 128, Nat.mod_lt _ (by decide)⟩ d) := by
  have e : ((cfg0.win 6).blk t).view.emb (ix2 x d) = (ix2 x d : S1024x1024.Idx) := by
    blk_ext [idx t]
  exact (congrArg (V m c main_v4 : S1024x1024.Idx → EReal) e).trans (entry4 m c x d)

/-- A row of the first window's block is a row of the first argument. -/
theorem block0 (c : Dev nD) (t : Fin cfg0.N) (y : Fin 1024) (d : Fin 1024) (i : Fin 2) (s : Fin 4096)
    (h : t.val * 1024 + y.val = i.val * 4096 + s.val) :
    (iblk m c 0 t : S1024x1024.Idx → EReal) (ix2 y d)
      = (m ((c : Thread nD τ).loc main_arg0) : S2x4096x1024.Idx → EReal) (ix3 i s d) := by
  have ht := (idx t).2.2.2.2.2.2.2.2
  have e : ((cfg0.win 0).blk t).view.emb (ix2 y d) = (ix2 ⟨t.val * 1024 + y.val, by omega⟩ d : S8192x1024.Idx) := by
    blk_ext [idx t]
  refine ((congrArg (V m c main_v0 : S8192x1024.Idx → EReal) e).trans (entry0 m c _ d)).trans ?_
  exact congrArg _ (congr (congr (congrArg ix3 (Fin.ext (by simp only; omega))) (Fin.ext (by simp only; omega))) rfl)

/-- Likewise the second window, -/
theorem block1 (c : Dev nD) (t : Fin cfg0.N) (y : Fin 1024) (d : Fin 8) (i : Fin 2) (s : Fin 4096)
    (h : t.val * 1024 + y.val = i.val * 4096 + s.val) :
    (iblk m c 1 t : S1024x8.Idx → EReal) (ix2 y d)
      = (m ((c : Thread nD τ).loc main_arg1) : S2x4096x8.Idx → EReal) (ix3 i s d) := by
  have ht := (idx t).2.2.2.2.2.2.2.2
  have e : ((cfg0.win 1).blk t).view.emb (ix2 y d) = (ix2 ⟨t.val * 1024 + y.val, by omega⟩ d : S8192x8.Idx) := by
    blk_ext [idx t]
  refine ((congrArg (V m c main_v1 : S8192x8.Idx → EReal) e).trans (entry1 m c _ d)).trans ?_
  exact congrArg _ (congr (congr (congrArg ix3 (Fin.ext (by simp only; omega))) (Fin.ext (by simp only; omega))) rfl)

/-- the third, of index words, -/
theorem block2 (c : Dev nD) (t : Fin cfg0.N) (y : Fin 1024) (d : Fin 4) (i : Fin 2) (s : Fin 4096)
    (h : t.val * 1024 + y.val = i.val * 4096 + s.val) :
    (iblk m c 2 t : S1024x4.Idx → BitVec 32) (ix2 y d)
      = (m ((c : Thread nD τ).loc main_arg2) : S2x4096x4.Idx → BitVec 32) (ix3 i s d) := by
  have ht := (idx t).2.2.2.2.2.2.2.2
  have e : ((cfg0.win 2).blk t).view.emb (ix2 y d) = (ix2 ⟨t.val * 1024 + y.val, by omega⟩ d : S8192x4.Idx) := by
    blk_ext [idx t]
  refine ((congrArg (V m c main_v2 : S8192x4.Idx → BitVec 32) e).trans (entry2 m c _ d)).trans ?_
  exact congrArg _ (congr (congr (congrArg ix3 (Fin.ext (by simp only; omega))) (Fin.ext (by simp only; omega))) rfl)

/-- and the fourth. -/
theorem block3 (c : Dev nD) (t : Fin cfg0.N) (y : Fin 1024) (d : Fin 8) (i : Fin 2) (s : Fin 4096)
    (h : t.val * 1024 + y.val = i.val * 4096 + s.val) :
    (iblk m c 3 t : S1024x8.Idx → EReal) (ix2 y d)
      = (m ((c : Thread nD τ).loc main_arg3) : S2x4096x8.Idx → EReal) (ix3 i s d) := by
  have ht := (idx t).2.2.2.2.2.2.2.2
  have e : ((cfg0.win 3).blk t).view.emb (ix2 y d) = (ix2 ⟨t.val * 1024 + y.val, by omega⟩ d : S8192x8.Idx) := by
    blk_ext [idx t]
  refine ((congrArg (V m c main_v3 : S8192x8.Idx → EReal) e).trans (entry3 m c _ d)).trans ?_
  exact congrArg _ (congr (congr (congrArg ix3 (Fin.ext (by simp only; omega))) (Fin.ext (by simp only; omega))) rfl)

/-- The seventh window stages the same block at every point. -/
theorem block6_const (c : Dev nD) (t t' : Fin cfg0.N) :
    (iblk m c 6 t : S1024x1024.Idx → EReal) = iblk m c 6 t' := by
  funext j
  idx_vars j
  rw [block6, block6]

/-- The first scratch buffer holds the input matrices side by side after every point. -/
theorem scr0 (c : Dev nD) (t : Fin cfg0.N) :
    (outsAt0 m c t.val t.isLt).2.1 = winCols (m ((c : Thread nD τ).loc main_arg4)) := by
  rw [Pipeline.eq_of_write_hold (fun n hn => (outsAt0 m c n hn).2.1) 8
    (fun _ => winCols (m ((c : Thread nD τ).loc main_arg4)))
    (fun t h => (scr0_A m c t h).trans (congrArg winCols (block4 m c t))) (fun t h => scr0_B m c t h) t]

/-- The second holds the output matrices after every point. -/
theorem scr1 (c : Dev nD) (t t' : Fin cfg0.N) :
    (outsAt0 m c t.val t.isLt).2.2 = (iblk m c 6 t' : S1024x1024.Idx → EReal) := by
  rw [Pipeline.eq_of_write_hold (fun n hn => (outsAt0 m c n hn).2.2) 8
    (fun _ => (iblk m c 6 t' : S1024x1024.Idx → EReal))
    (fun t h => (scr1_A m c t h).trans (block6_const m c t t')) (fun t h => scr1_B m c t h) t]

/-- So the block each point leaves is the body's result over that point's blocks. -/
theorem out_all (c : Dev nD) (t : Fin cfg0.N) :
    (outsAt0 m c t.val t.isLt).1 = bodyOut (iblk m c 0 t) (iblk m c 1 t) (iblk m c 2 t) (iblk m c 3 t) (iblk m c 5 t)
      (winCols (m ((c : Thread nD τ).loc main_arg4))) (iblk m c 6 t) := by
  by_cases h : t.val % 8 = 0
  · rw [out_A m c t h]
    exact congrArg (fun z => bodyOut (iblk m c 0 t) (iblk m c 1 t) (iblk m c 2 t) (iblk m c 3 t) (iblk m c 5 t)
      (winCols z) (iblk m c 6 t)) (block4 m c t)
  · rw [out_B m c t h]
    have e0 := scr0 m c ⟨t.val - 1, by omega⟩
    have e1 := scr1 m c ⟨t.val - 1, by omega⟩ t
    simp only at e0 e1
    rw [e0, e1]

/-- The block a point leaves, at a row and a column. -/
theorem out_at (c : Dev nD) (t : Fin cfg0.N) (y d : Fin 1024) (i : Fin 2) (s : Fin 4096)
    (h : t.val * 1024 + y.val = i.val * 4096 + s.val) :
    ((outsAt0 m c t.val t.isLt).1 : S1024x1024.Idx → EReal) (ix2 y d)
      = kerOut (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5))
          (m ((c : Thread nD τ).loc main_arg6)) i s d := by
  rw [out_all m c t]
  refine (bodyOut_at _ _ _ _ _ _ _ y d).trans ?_
  have e0 := funext fun d => block0 m c t y d i s h
  have e1 := funext fun d => block1 m c t y d i s h
  have e2 := funext fun d => block2 m c t y d i s h
  have e3 := fun d => block3 m c t y d i s h
  have e5 := block5 m c t
  have e6 := fun x => block6 m c t x d
  unfold kerOut
  rw [e0, e1, e2, e5]
  exact Finset.sum_congr rfl fun x _ => congrArg₂ (· * ·) (congrArg _ (e3 _)) (e6 x)

/-- The kernel's result over the memory's arguments, its two leading axes in one. -/
def flatOut (c : Dev nD) : S8192x1024.Idx → EReal :=
  fun j => kerOut (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5))
          (m ((c : Thread nD τ).loc main_arg6))
          ⟨(j 0).val / 4096, by have h := (j 0).isLt; simp at h; omega⟩
          ⟨(j 0).val % 4096, Nat.mod_lt _ (by decide)⟩ (j 1)

/-- It holds, at the place of a point's block, what that point leaves there. -/
theorem flatOut_emb (c : Dev nD) (t : Fin cfg0.N) (y : S1024x1024.Idx) :
    ((outsAt0 m c t.val t.isLt).1 : S1024x1024.Idx → EReal) y = flatOut m c (((cfg0.win 7).blk t).view.emb y) := by
  have ht := (idx t).2.2.2.2.2.2.2.2
  idx_vars y
  have e : ((cfg0.win 7).blk t).view.emb (ix2 y0 y1) = (ix2 ⟨t.val * 1024 + y0.val, by omega⟩ y1 : S8192x1024.Idx) := by
    blk_ext [idx t]
  refine (out_at m c t y0 y1 ⟨(t.val * 1024 + y0.val) / 4096, by omega⟩
    ⟨(t.val * 1024 + y0.val) % 4096, Nat.mod_lt _ (by decide)⟩ (by simp only; omega)).trans ?_
  exact (congrArg (flatOut m c) e).symm

/-- The result array after the run. -/
theorem final (c : Dev nD) : (dats m 0 c).arrAt 7 (cfgs 0).N = flatOut m c := by
  refine (dats m 0 c).arrAt_eq_of_covers 7 _ (by decide +kernel) fun t hf y => ?_
  blk_simp
  rw [after0_7]
  exact flatOut_emb m c t y

/-- After the region the result buffer of the launch holds that array. -/
theorem arrays_v5 (c : Dev nD) :
    Pipeline.withArrays (cfgs 0).spec c (V0 m c) (fun w => (dats m 0 c).arrAt w (cfgs 0).N) (Proc.devRef .tc main_v5)
      = flatOut m c :=
  (Pipeline.withArrays_arr (cfgs 0).spec launch0.win.arr_inj c (V0 m c) (fun w => (dats m 0 c).arrAt w (cfgs 0).N) 7).trans (final m c)

/-- The program's result at an index. -/
theorem tail (c : Dev nD) (i : Fin 2) (s : Fin 4096) (d : Fin 1024) :
    (Pipeline.afterTail₀ cfgs (dats m) 0 (V0 m) [hostOps1] c main_v6 : S2x4096x1024.Idx → EReal) (ix3 i s d)
      = kerOut (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5))
          (m ((c : Thread nD τ).loc main_arg6)) i s d := by
  unfold Pipeline.afterTail₀
  after_reads_at
  rw [arrays_v5]
  exact congr (congr (congrArg (kerOut _ _ _ _ _ _ _) (Fin.ext (by simp <;> omega))) (Fin.ext (by simp <;> omega))) rfl

end Cert.Proof

end
-- ==== Proof.RefAt.lean ====
/- The reference, read at one index. -/
module

public import proofs.«01_k».proof.Proof.BodyAt
public import proofs.«01_k».proof.Proof.Gen.ReferenceIdeal.Run
public import Idealize.ShloMosaic.Lib.StableHlo.ReadAt
public import Idealize.ShloMosaic.Lib.Claim

@[expose] public section

set_option maxRecDepth 16384

noncomputable section

namespace Cert.Proof

open Idealize.ShloMosaic Idealize.ShloMosaic.TcCoe Idealize.SL.Sem
open Cert.ReferenceIdeal Cert.ReferenceIdeal.Gen Cert.ReferenceIdeal.Value

/-- The reference's take of process rows, at one index: where the index word at `(i, s, l)` holds `b < 32`, entry
    `(i, s, l, r)` of the result is entry `(b, r)` of the table. -/
theorem take_at (x : S32x128.Idx → EReal) (idx : IVec S2x4096x4x1 32) (i : Fin 2) (s : Fin 4096) (l : Fin 4) (r : Fin 128)
    (b : Fin 32) (hb : (idx (ix4 i s l 0)).toNat = b.val) :
    Host.gather gather_S32x128_S2x4096x4x1_S2x4096x4x128_3_0_n_n_0_3_1128 x idx (ix4 i s l r) = x (ix2 b r) := by
  unfold Host.gather
  refine congrArg x (funext fun a => Fin.ext ?_)
  match a with
  | ⟨0, _⟩ =>
    show GatherDims.start _ _ idx 0 + GatherDims.batchCoord _ _ 0 + GatherDims.offCoord _ _ 0 = b.val
    rw [GatherDims.batchCoord_eq_zero _ _ _ (by decide), GatherDims.offCoord_eq_zero _ _ _ (by decide)]
    unfold GatherDims.start
    rw [dif_pos (by decide)]
    have hs : GatherDims.siIdx gather_S32x128_S2x4096x4x1_S2x4096x4x128_3_0_n_n_0_3_1128 (ix4 i s l r)
        ⟨List.idxOf (0 : Fin 2) gather_S32x128_S2x4096x4x1_S2x4096x4x128_3_0_n_n_0_3_1128.startIndexMap, by decide⟩
        = ix4 i s l 0 := by
      funext q
      refine Fin.ext ?_
      match q with
      | ⟨0, _⟩ => rfl
      | ⟨1, _⟩ => rfl
      | ⟨2, _⟩ => rfl
      | ⟨3, _⟩ => rfl
    show min (idx (GatherDims.siIdx gather_S32x128_S2x4096x4x1_S2x4096x4x128_3_0_n_n_0_3_1128 (ix4 i s l r)
        ⟨List.idxOf (0 : Fin 2) gather_S32x128_S2x4096x4x1_S2x4096x4x128_3_0_n_n_0_3_1128.startIndexMap, _⟩)).toInt.toNat 31
        + 0 + 0 = b.val
    rw [hs]
    have hlt := b.isLt
    rw [BitVec.toInt_eq_toNat_of_lt (by omega), hb]
    omega
  | ⟨1, _⟩ =>
    show GatherDims.start _ _ idx 1 + GatherDims.batchCoord _ _ 1 + GatherDims.offCoord _ _ 1 = r.val
    rw [GatherDims.batchCoord_eq_zero _ _ _ (by decide)]
    unfold GatherDims.start
    rw [dif_neg (by decide)]
    show 0 + 0 + GatherDims.offCoord _ _ 1 = r.val
    simp only [Nat.zero_add]
    rfl

/-- An index word in range passes both of the take's range tests. -/
theorem in_range (k : Fin 32) : IntOp.andi (IntOp.cmpi .sge (BitVec.ofNat 32 k.val) 0#32)
    (IntOp.cmpi .sle (BitVec.ofNat 32 k.val) 31#32) = 1#1 := by revert k; decide

/-- An index word in range is not wrapped around. -/
theorem not_wrapped (k : Fin 32) : IntOp.cmpi .slt (BitVec.ofNat 32 k.val) 0#32 = 0#1 := by revert k; decide

/-- The process row `k` divided by its norm, as the reference has it. -/
def divRow (P : Fin 32 → Fin 128 → EReal) (k : Fin 32) (r : Fin 128) : EReal :=
  Ideal.div (P k r) (Ideal.sqrt (∑ x, P k x * P k x + Ideal.ofBits FTy.f32 0x322BCC77#32))

variable (V : Valuation τ sig (Elt Ideal)) (i : Fin 2) (s : Fin 4096)

/-- The combined input projection of a token, in the reference. -/
theorem ref_v4 (r : Fin 128) : (res_main_v4 V : S2x4096x128.Idx → EReal) (ix3 i s r)
    = hRow (fun d => (V main_arg0 : S2x4096x1024.Idx → EReal) (ix3 i s d))
        (fun n => (V main_arg1 : S2x4096x8.Idx → EReal) (ix3 i s n))
        (fun n d r => (V main_arg4 : S8x1024x128.Idx → EReal) (ix3 n d r)) r := by
  unfold res_main_v4
  clean_types
  pointwise
  rfl

variable (b : Fin 4 → Fin 32) (hb : ∀ l, ((V main_arg2 : S2x4096x4.Idx → BitVec 32) (ix3 i s l)).toNat = (b l).val)
include hb

/-- The index words in range reach the take unchanged. -/
theorem ref_idx (l : Fin 4) : (res_main_call0_v5 V : S2x4096x4x1.Idx → BitVec 32) (ix4 i s l 0) = BitVec.ofNat 32 (b l).val := by
  have e : (V main_arg2 : S2x4096x4.Idx → BitVec 32) (ix3 i s l) = BitVec.ofNat 32 (b l).val := by
    rw [← hb l]; simp
  unfold res_main_call0_v5
  clean_types
  pointwise
  refine Eq.trans (congrArg (fun w : BitVec 32 => Scalar.select (IntOp.cmpi .slt w 0#32) (IntOp.addi w 32#32) w) e) ?_
  show Scalar.select (IntOp.cmpi .slt (BitVec.ofNat 32 (b l).val) 0#32) _ _ = _
  rw [not_wrapped]
  rfl

/-- The process rows the reference takes for a token. -/
theorem ref_v5 (l : Fin 4) (r : Fin 128) : (res_main_v5 V : S2x4096x4x128.Idx → EReal) (ix4 i s l r)
    = (V main_arg5 : S32x128.Idx → EReal) (ix2 (b l) r) := by
  have e := ref_idx V i s b hb l
  unfold res_main_v5
  clean_types
  pointwise
  rw [Finset.univ_unique, Finset.fold_singleton]
  show Scalar.select (IntOp.andi (IntOp.andi (IntOp.cmpi .sge ((res_main_call0_v5 V : S2x4096x4x1.Idx → BitVec 32) (ix4 i s l 0)) 0#32)
    (IntOp.cmpi .sle ((res_main_call0_v5 V : S2x4096x4x1.Idx → BitVec 32) (ix4 i s l 0)) 31#32)) 1#1) _ _ = _
  rw [e, in_range]
  refine Eq.trans ?_ (take_at _ (res_main_call0_v5 V) i s l r (b l) ?_)
  · rfl
  · rw [e, BitVec.toNat_ofNat]
    have := (b l).isLt
    omega

/-- The first process row, divided by its norm. -/
theorem ref_v15 (r : Fin 128) : (res_main_v15 V : S2x4096x128.Idx → EReal) (ix3 i s r)
    = divRow (fun k r => (V main_arg5 : S32x128.Idx → EReal) (ix2 k r)) (b 0) r := by
  have e (r : Fin 128) : (res_main_v7 V : S2x4096x128.Idx → EReal) (ix3 i s r)
      = (V main_arg5 : S32x128.Idx → EReal) (ix2 (b 0) r) := by
    rw [← ref_v5 V i s b hb]
    unfold res_main_v7
    clean_types
    pointwise
  unfold res_main_v15
  clean_types
  pointwise
  simp only [e]
  rfl

/-- The second process row, divided by its norm. -/
theorem ref_v33 (r : Fin 128) : (res_main_v33 V : S2x4096x128.Idx → EReal) (ix3 i s r)
    = divRow (fun k r => (V main_arg5 : S32x128.Idx → EReal) (ix2 k r)) (b 1) r := by
  have e (r : Fin 128) : (res_main_v25 V : S2x4096x128.Idx → EReal) (ix3 i s r)
      = (V main_arg5 : S32x128.Idx → EReal) (ix2 (b 1) r) := by
    rw [← ref_v5 V i s b hb]
    unfold res_main_v25
    clean_types
    pointwise
  unfold res_main_v33
  clean_types
  pointwise
  simp only [e]
  rfl

/-- The third process row, divided by its norm. -/
theorem ref_v51 (r : Fin 128) : (res_main_v51 V : S2x4096x128.Idx → EReal) (ix3 i s r)
    = divRow (fun k r => (V main_arg5 : S32x128.Idx → EReal) (ix2 k r)) (b 2) r := by
  have e (r : Fin 128) : (res_main_v43 V : S2x4096x128.Idx → EReal) (ix3 i s r)
      = (V main_arg5 : S32x128.Idx → EReal) (ix2 (b 2) r) := by
    rw [← ref_v5 V i s b hb]
    unfold res_main_v43
    clean_types
    pointwise
  unfold res_main_v51
  clean_types
  pointwise
  simp only [e]
  rfl

/-- The fourth process row, divided by its norm. -/
theorem ref_v69 (r : Fin 128) : (res_main_v69 V : S2x4096x128.Idx → EReal) (ix3 i s r)
    = divRow (fun k r => (V main_arg5 : S32x128.Idx → EReal) (ix2 k r)) (b 3) r := by
  have e (r : Fin 128) : (res_main_v61 V : S2x4096x128.Idx → EReal) (ix3 i s r)
      = (V main_arg5 : S32x128.Idx → EReal) (ix2 (b 3) r) := by
    rw [← ref_v5 V i s b hb]
    unfold res_main_v61
    clean_types
    pointwise
  unfold res_main_v69
  clean_types
  pointwise
  simp only [e]
  rfl

omit hb in
/-- The first reflection of the reference, over whole rows. -/
theorem ref_v23 (h v : Fin 128 → EReal) (hh : ∀ r, (res_main_v4 V : S2x4096x128.Idx → EReal) (ix3 i s r) = h r)
    (hv : ∀ r, (res_main_v15 V : S2x4096x128.Idx → EReal) (ix3 i s r) = v r) (r : Fin 128) :
    (res_main_v23 V : S2x4096x128.Idx → EReal) (ix3 i s r) = refStep h v r := by
  unfold res_main_v23
  clean_types
  pointwise
  simp only [hh, hv]
  rfl

omit hb in
/-- The second reflection of the reference, over whole rows. -/
theorem ref_v41 (h v : Fin 128 → EReal) (hh : ∀ r, (res_main_v23 V : S2x4096x128.Idx → EReal) (ix3 i s r) = h r)
    (hv : ∀ r, (res_main_v33 V : S2x4096x128.Idx → EReal) (ix3 i s r) = v r) (r : Fin 128) :
    (res_main_v41 V : S2x4096x128.Idx → EReal) (ix3 i s r) = refStep h v r := by
  unfold res_main_v41
  clean_types
  pointwise
  simp only [hh, hv]
  rfl

omit hb in
/-- The third reflection of the reference, over whole rows. -/
theorem ref_v59 (h v : Fin 128 → EReal) (hh : ∀ r, (res_main_v41 V : S2x4096x128.Idx → EReal) (ix3 i s r) = h r)
    (hv : ∀ r, (res_main_v51 V : S2x4096x128.Idx → EReal) (ix3 i s r) = v r) (r : Fin 128) :
    (res_main_v59 V : S2x4096x128.Idx → EReal) (ix3 i s r) = refStep h v r := by
  unfold res_main_v59
  clean_types
  pointwise
  simp only [hh, hv]
  rfl

/-- What the reference has of a token after three reflections. -/
theorem ref_three (r : Fin 128) : (res_main_v59 V : S2x4096x128.Idx → EReal) (ix3 i s r)
    = refStep (refStep (refStep (hRow (fun d => (V main_arg0 : S2x4096x1024.Idx → EReal) (ix3 i s d))
        (fun n => (V main_arg1 : S2x4096x8.Idx → EReal) (ix3 i s n))
        (fun n d r => (V main_arg4 : S8x1024x128.Idx → EReal) (ix3 n d r)))
        (divRow (fun k r => (V main_arg5 : S32x128.Idx → EReal) (ix2 k r)) (b 0)))
        (divRow (fun k r => (V main_arg5 : S32x128.Idx → EReal) (ix2 k r)) (b 1)))
        (divRow (fun k r => (V main_arg5 : S32x128.Idx → EReal) (ix2 k r)) (b 2)) r :=
  ref_v59 V i s _ _ (ref_v41 V i s _ _ (ref_v23 V i s _ _ (ref_v4 V i s) (ref_v15 V i s b hb)) (ref_v33 V i s b hb))
    (ref_v51 V i s b hb) r

end Cert.Proof
-- ==== Proof.Agree.lean ====
/- The kernel's expression for one entry of the result is the reference's, at real arguments. -/
module

public import proofs.«01_k».proof.Proof.KernelValue
public import proofs.«01_k».proof.Proof.RefAt

@[expose] public section

set_option maxRecDepth 16384

noncomputable section

namespace Cert.Proof

open Idealize.ShloMosaic Idealize.ShloMosaic.TcCoe Idealize.SL.Sem

/-- A combined projection of real arguments is a row of real numbers. -/
theorem hRow_coe (x : Fin 1024 → ℝ) (w : Fin 8 → ℝ) (W : Fin 8 → Fin 1024 → Fin 128 → ℝ) :
    hRow (fun d => (x d : EReal)) (fun n => (w n : EReal)) (fun n d r => (W n d r : EReal))
      = fun r => ((∑ n, (∑ d, x d * W n d r) * w n : ℝ) : EReal) := by
  funext r
  simp only [hRow, ← EReal.coe_mul, sum_coe]

/-- One entry of the result: over real tokens, weights and banks and index words in range, the kernel's sum over all
    columns of all banks is the reference's sum, over the banks, of the products with the four times reflected row. -/
theorem agree (X : KernelIdeal.S2x4096x1024.Idx → EReal) (wi : KernelIdeal.S2x4096x8.Idx → EReal)
    (b : KernelIdeal.S2x4096x4.Idx → BitVec 32) (wo : KernelIdeal.S2x4096x8.Idx → EReal)
    (win : KernelIdeal.S8x1024x128.Idx → EReal) (pn : KernelIdeal.S32x128.Idx → EReal)
    (won : KernelIdeal.S8x128x1024.Idx → EReal)
    (hX : ∀ y, ∃ r : ℝ, X y = (r : EReal)) (hwi : ∀ y, ∃ r : ℝ, wi y = (r : EReal)) (hwo : ∀ y, ∃ r : ℝ, wo y = (r : EReal))
    (hwin : ∀ y, ∃ r : ℝ, win y = (r : EReal)) (hwon : ∀ y, ∃ r : ℝ, won y = (r : EReal))
    (i : Fin 2) (s : Fin 4096) (d : Fin 1024) (k : Fin 4 → Fin 32) (hk : ∀ l, (b (ix3 i s l)).toNat = (k l).val) :
    kerOut X wi b wo win pn won i s d
      = ∑ n : Fin 8, (∑ r : Fin 128, refStep (refStep (refStep (refStep
            (hRow (fun d => X (ix3 i s d)) (fun n => wi (ix3 i s n)) (fun n d r => win (ix3 n d r)))
            (divRow (fun k r => pn (ix2 k r)) (k 0))) (divRow (fun k r => pn (ix2 k r)) (k 1)))
            (divRow (fun k r => pn (ix2 k r)) (k 2))) (divRow (fun k r => pn (ix2 k r)) (k 3)) r
          * won (ix3 n r d)) * wo (ix3 i s n) := by
  choose x hx using hX
  choose a ha using hwi
  choose o ho using hwo
  choose w hw using hwin
  choose v hv using hwon
  choose u hu hu' using fun k : Fin 32 => unit_row (fun r : Fin 128 => pn (ix2 k r))
  have eu : (unitRow fun k r => pn (ix2 k r)) = fun k r => (u k r : EReal) := funext fun k => funext fun r => hu k r
  have ed (k : Fin 32) : divRow (fun k r => pn (ix2 k r)) k = fun r => (u k r : EReal) := funext fun r => hu' k r
  have eh : hRow (fun d => X (ix3 i s d)) (fun n => wi (ix3 i s n)) (fun n d r => win (ix3 n d r))
      = fun r => ((∑ n, (∑ d, x (ix3 i s d) * w (ix3 n d r)) * a (ix3 i s n) : ℝ) : EReal) := by
    simp only [hx, ha, hw]
    exact hRow_coe _ _ _
  obtain ⟨e1, e2⟩ := kerRow_coe (fun r => ∑ n, (∑ d, x (ix3 i s d) * w (ix3 n d r)) * a (ix3 i s n)) u
    (fun l => b (ix3 i s l)) k hk
  unfold kerOut
  rw [eu, eh, ed, ed, ed, ed, e1, e2]
  simp only [ho, hv]
  rw [← out_sum _ (fun n => o (ix3 i s n)) (fun n r => v (ix3 n r d))]

end Cert.Proof
-- ==== Proof.Range.lean ====
/- What the precondition says of the argument arrays, entry by entry. -/
module

public import proofs.«01_k».proof.Defs
public import proofs.«01_k».proof.Proof.Gen.Pre_usual
public import Idealize.ShloMosaic.Lib.ReduceAll
public import Idealize.ShloMosaic.Lib.StableHlo.ReadAt
public import Idealize.ShloMosaic.Lib.Claim

@[expose] public section

set_option maxRecDepth 16384

noncomputable section

namespace Cert.Proof

open Idealize.ShloMosaic Idealize.ShloMosaic.TcCoe Idealize.SL.Sem
open Cert.Pre_usual

/-- The finiteness bound is the top of the extended reals. -/
theorem inf_word : Ideal.ofBits FTy.f32 0x7F800000#32 = (⊤ : EReal) := by
  simp [Ideal.ofBits, Ideal.ieee]

/-- An extended real whose absolute value is below the top is a real number. -/
theorem real_of_test (x : EReal) (h : Ideal.cmp .olt (max x (-x)) (Ideal.ofBits FTy.f32 0x7F800000#32) = 1#1) :
    ∃ r : ℝ, x = (r : EReal) := by
  rw [inf_word] at h
  induction x with
  | bot => simp [Ideal.cmp] at h
  | top => simp [Ideal.cmp] at h
  | coe r => exact ⟨r, rfl⟩

/-- A word that is at least 0 and below 32, both read with a sign, is below 32 as a natural number. -/
theorem small_of_test (w : BitVec 32) (h : IntOp.andi (IntOp.cmpi .sge w 0#32) (IntOp.cmpi .slt w 32#32) = 1#1) :
    w.toNat < 32 := by
  obtain ⟨h0, h1⟩ := IntOp.andi_eq_one.1 h
  rw [IntOp.cmpi_sge] at h0
  rw [IntOp.cmpi_slt] at h1
  have e0 : (0#32 : BitVec 32).toInt = 0 := by decide
  have e1 : (32#32 : BitVec 32).toInt = 32 := by decide
  rw [e0] at h0
  rw [e1] at h1
  rw [BitVec.toInt_eq_toNat_cond] at h0 h1
  split at h0 <;> omega

instance : Subsingleton S_.Idx := ⟨fun a b => funext fun q => q.elim0⟩

/-- The precondition, entry by entry: the tokens, the two weight arrays and the two banks of neurons hold real numbers, and
    every index is below 32. -/
theorem usual_at (a0 : S2x4096x1024.Idx → EReal) (a1 : S2x4096x8.Idx → EReal) (a2 : S2x4096x4.Idx → BitVec 32)
    (a3 : S2x4096x8.Idx → EReal) (a4 : S8x1024x128.Idx → EReal) (a5 : S32x128.Idx → EReal) (a6 : S8x128x1024.Idx → EReal)
    (h : fn (F := Ideal) a0 a1 a2 a3 a4 a5 a6 = fun _ => 1#1) :
    (∀ y, ∃ r : ℝ, a0 y = (r : EReal)) ∧ (∀ y, ∃ r : ℝ, a1 y = (r : EReal)) ∧ (∀ y, (a2 y).toNat < 32)
      ∧ (∀ y, ∃ r : ℝ, a3 y = (r : EReal)) ∧ (∀ y, ∃ r : ℝ, a4 y = (r : EReal)) ∧ ∀ y, ∃ r : ℝ, a6 y = (r : EReal) := by
  have h' := congrFun h ((fun q => q.elim0) : S_.Idx)
  dsimp only [fn, fn_part1] at h'
  obtain ⟨h', k6⟩ := IntOp.andi_eq_one.1 h'
  obtain ⟨h', k4⟩ := IntOp.andi_eq_one.1 h'
  obtain ⟨h', k3⟩ := IntOp.andi_eq_one.1 h'
  obtain ⟨h', k2⟩ := IntOp.andi_eq_one.1 h'
  obtain ⟨k0, k1⟩ := IntOp.andi_eq_one.1 h'
  exact ⟨fun y => real_of_test _ (Host.reduce_andi_all _ _ _ _ _ k0 y),
    fun y => real_of_test _ (Host.reduce_andi_all _ _ _ _ _ k1 y),
    fun y => small_of_test _ (Host.reduce_andi_all _ _ _ _ _ k2 y),
    fun y => real_of_test _ (Host.reduce_andi_all _ _ _ _ _ k3 y),
    fun y => real_of_test _ (Host.reduce_andi_all _ _ _ _ _ k4 y),
    fun y => real_of_test _ (Host.reduce_andi_all _ _ _ _ _ k6 y)⟩

end Cert.Proof
-- ==== Proof.Alg.lean ====
/- The kernel's result is the reference's, over the extended reals, where the precondition holds. -/
module

public import proofs.«01_k».proof.Proof.Agree
public import proofs.«01_k».proof.Proof.Range

@[expose] public section

set_option maxRecDepth 16384

noncomputable section

namespace Cert.Proof

open Idealize.ShloMosaic Idealize.ShloMosaic.TcCoe Idealize.SL.Sem

/-- From equal argument arrays that meet the precondition, the kernel and the reference both run, leave their arguments as
    they were and end with the same result. -/
theorem algebraic : Cert.algebraic_KernelIdeal_ReferenceIdeal_pre_usual := by
  pair_intro
  · run_from Cert.KernelIdeal.Gen.run_main m g & Cert.KernelIdeal.Gen.unchanged m g
  · run_from Cert.ReferenceIdeal.Value.run m' g'
    obtain ⟨h0, h1, h2, h3, h4, h6⟩ := usual_at _ _ _ _ _ _ _ (hpre c)
    obtain ⟨a0, a1, a2, a3, a4, a5, a6⟩ := hagree c
    funext j
    idx_vars j
    refine Eq.trans ?_ (tail m c j0 j1 j2).symm
    have hb (l : Fin 4) : ((StableHlo.launchContents m' c ReferenceIdeal.main_arg2 : ReferenceIdeal.S2x4096x4.Idx → BitVec 32)
        (ix3 j0 j1 l)).toNat = (⟨_, h2 (ix3 j0 j1 l)⟩ : Fin 32).val := congrArg (fun w : ReferenceIdeal.S2x4096x4.Idx → BitVec 32 => (w (ix3 j0 j1 l)).toNat) a2
    refine Eq.trans ?_ (agree _ _ _ _ _ _ _ h0 h1 h3 h4 h6 j0 j1 j2 (fun l => ⟨_, h2 (ix3 j0 j1 l)⟩) fun l => rfl).symm
    have r3 := ref_three (StableHlo.launchContents m' c) j0 j1 _ hb
    have r4 := ref_v69 (StableHlo.launchContents m' c) j0 j1 _ hb
    have q0 : StableHlo.launchContents m' c ReferenceIdeal.main_arg0 = m ((c.tc : Thread KernelIdeal.nD KernelIdeal.τ).loc KernelIdeal.main_arg0) := a0
    have q1 : StableHlo.launchContents m' c ReferenceIdeal.main_arg1 = m ((c.tc : Thread KernelIdeal.nD KernelIdeal.τ).loc KernelIdeal.main_arg1) := a1
    have q4 : StableHlo.launchContents m' c ReferenceIdeal.main_arg4 = m ((c.tc : Thread KernelIdeal.nD KernelIdeal.τ).loc KernelIdeal.main_arg4) := a4
    have q5 : StableHlo.launchContents m' c ReferenceIdeal.main_arg5 = m ((c.tc : Thread KernelIdeal.nD KernelIdeal.τ).loc KernelIdeal.main_arg5) := a5
    rw [q0, q1, q4, q5] at r3
    rw [q5] at r4
    clean_types
    pointwise
    simp only [r3, r4]
    rfl

end Cert.Proof
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_usual
public import proofs.«01_k».proof.Proof.Frames
public import proofs.«01_k».proof.Proof.Alg

@[expose] public section

noncomputable section

namespace Cert.Proof

/-- Every claim of the certificate. -/
theorem claim : Cert.Claim :=
  ⟨Cert.Kernel.Gen.facts, Cert.KernelIdeal.Gen.facts, Cert.ReferenceIdeal.Gen.facts, Cert.Pre_usual.Gen.facts,
    frame_kernel, frame_ideal, frame_ideal_usual, frame_ref, frame_ref_usual, trivial, algebraic⟩

end Cert.Proof

end
